-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite [hPre_finite : Cert.Pre_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite [hPre_finite : Cert.Pre_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Kernel6Ideal_pre_finite [hKernel6Ideal : Cert.Kernel6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Reference6Ideal_pre_finite [hReference6Ideal : Cert.Reference6Ideal.Facts] [hPre_finite : Cert.Pre_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_v22) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)) (v3 : (c : Dev Cert.Kernel3Ideal.nD) → Buf (Elt Ideal) ((c.tc : Thread Cert.Kernel3Ideal.nD Cert.Kernel3Ideal.τ).loc Cert.Kernel3Ideal.main_v4_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_v4_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_v17) = v2 c
          ∧ r.2.mem ((c.tc : Thread Cert.Reference3Ideal.nD Cert.Reference3Ideal.τ).loc Cert.Reference3Ideal.main_v18) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_v22) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)) (v2 : (c : Dev Cert.Kernel5Ideal.nD) → Buf (Elt Ideal) ((c.tc : Thread Cert.Kernel5Ideal.nD Cert.Kernel5Ideal.τ).loc Cert.Kernel5Ideal.main_v8_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_v8_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_v21) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite [hKernel6Ideal : Cert.Kernel6Ideal.Facts] [hReference6Ideal : Cert.Reference6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v39_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v39_2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite (hKernel6Ideal := hKernel6Ideal) (hPre_finite := hPre_finite)
    ∧ quiescent_Reference6Ideal (hReference6Ideal := hReference6Ideal)
    ∧ quiescent_Reference6Ideal_pre_finite (hReference6Ideal := hReference6Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite (hKernel6Ideal := hKernel6Ideal) (hReference6Ideal := hReference6Ideal) (hPre_finite := hPre_finite)
-- ==== Pre_finite.lean ====
abbrev S512x3584 : Shape := ⟨2, ![512, 3584]⟩
abbrev S512x128 : Shape := ⟨2, ![512, 128]⟩
abbrev S128x3x1024 : Shape := ⟨3, ![128, 3, 1024]⟩
abbrev S128x8x64x128 : Shape := ⟨4, ![128, 8, 64, 128]⟩
abbrev S4x1024 : Shape := ⟨2, ![4, 1024]⟩
abbrev S1024 : Shape := ⟨1, ![1024]⟩
abbrev S8 : Shape := ⟨1, ![8]⟩
abbrev S512 : Shape := ⟨1, ![512]⟩
abbrev S_ : Shape := ⟨0, ![]⟩

class Facts : Prop where
  bcast_S_S512x3584 : S_.BroadcastsInDim S512x3584 (![] : Fin 0 → Fin S512x3584.rank)
  reducesTo_S512x3584_S_d0_1 : S512x3584.ReducesTo [0, 1] S_
  h_S_ : 0 < S_.numel

variable [Facts]

def fn {F : FTy → Type} [FloatOps F] (main_arg0 : FVec F S512x3584 .f32) (main_arg1 : FVec F S512x128 .f32) (main_arg2 : FVec F S128x3x1024 .f32) (main_arg3 : FVec F S128x8x64x128 .f32) (main_arg4 : FVec F S4x1024 .f32) (main_arg5 : FVec F S1024 .f32) (main_arg6 : FVec F S8 .f32) (main_arg7 : FVec F S8 .f32) (main_arg8 : FVec F S8 .f32) (main_arg9 : FVec F S512 .f32) : IVec S_ 1 :=
  let main_v0 : FVec F S512x3584 .f32 := Host.absf main_arg0
  let main_cst : FVec F S_ .f32 := constant S_ .f32 0x7F800000#32
  let main_v1 : FVec F S512x3584 .f32 := broadcastInDim S512x3584 ![] bcast_S_S512x3584 main_cst
  let main_v2 : IVec S512x3584 1 := cmpf .olt main_v0 main_v1
  let main_c : IVec S_ 1 := constantI S_ 1 1#1
  let main_v3 : IVec S_ 1 := (fun x v => Host.reduce IntOp.andi x v reducesTo_S512x3584_S_d0_1 h_S_) main_v2 main_c
  main_v3
-- ==== Kernel.lean ====
abbrev S8x2048x1024 : Shape := ⟨3, ![8, 2048, 1024]⟩
abbrev S16384x512 : Shape := ⟨2, ![16384, 512]⟩
abbrev S8x256x1024 : Shape := ⟨3, ![8, 256, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16384x1024 : Shape := ⟨2, ![16384, 1024]⟩
abbrev S1x1024 : Shape := ⟨2, ![1, 1024]⟩
abbrev S1x5632 : Shape := ⟨2, ![1, 5632]⟩
abbrev S32x2x5632 : Shape := ⟨3, ![32, 2, 5632]⟩
abbrev S512x1024 : Shape := ⟨2, ![512, 1024]⟩
abbrev S512x512 : Shape := ⟨2, ![512, 512]⟩
abbrev S1x256x1024 : Shape := ⟨3, ![1, 256, 1024]⟩
abbrev S1x2x5632 : Shape := ⟨3, ![1, 2, 5632]⟩
abbrev S8x5632 : Shape := ⟨2, ![8, 5632]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩
abbrev S8x1 : Shape := ⟨2, ![8, 1]⟩
abbrev S1024x256 : Shape := ⟨2, ![1024, 256]⟩
abbrev S3x256 : Shape := ⟨2, ![3, 256]⟩
abbrev S1x256 : Shape := ⟨2, ![1, 256]⟩
abbrev S8x256 : Shape := ⟨2, ![8, 256]⟩
abbrev S2x256 : Shape := ⟨2, ![2, 256]⟩
abbrev S1x2x256 : Shape := ⟨3, ![1, 2, 256]⟩
abbrev S504x256 : Shape := ⟨2, ![504, 256]⟩
abbrev S512x2816 : Shape := ⟨2, ![512, 2816]⟩

abbrev nBuf : Space → Nat
  | .hbm => 27
  | .vmem => 25
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .bf16⟩
  | .hbm, ⟨2, _⟩ => ⟨S16384x512, .bf16⟩
  | .hbm, ⟨3, _⟩ => ⟨S8x256x1024, .f32⟩
  | .hbm, ⟨4, _⟩ => ⟨S8x256x1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024x5632, .f32⟩
  | .hbm, ⟨11, _⟩ => ⟨S3x5632, .f32⟩
  | .hbm, ⟨12, _⟩ => ⟨S5632, .f32⟩
  | .hbm, ⟨13, _⟩ => ⟨S2816x1024, .f32⟩
  | .hbm, ⟨14, _⟩ => ⟨S1024, .f32⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S16384x1024, .f32⟩
  | .hbm, ⟨19, _⟩ => ⟨S1x1024, .f32⟩
  | .hbm, ⟨20, _⟩ => ⟨S1x1024, .f32⟩
  | .hbm, ⟨21, _⟩ => ⟨S1024x5632, .bf16⟩
  | .hbm, ⟨22, _⟩ => ⟨S1x5632, .f32⟩
  | .hbm, ⟨23, _⟩ => ⟨S2816x1024, .bf16⟩
  | .hbm, ⟨24, _⟩ => ⟨S1x1024, .f32⟩
  | .hbm, ⟨25, _⟩ => ⟨S16384x1024, .f32⟩
  | .hbm, ⟨26, _⟩ => ⟨S32x2x5632, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x5632, .bf16⟩
  | .local _ .vmem, ⟨16, _⟩ => ⟨S3x5632, .f32⟩
  | .local _ .vmem, ⟨17, _⟩ => ⟨S1x5632, .f32⟩
  | .local _ .vmem, ⟨18, _⟩ => ⟨S2816x1024, .bf16⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S1x2x5632, .f32⟩
  | .local _ .vmem, ⟨23, _⟩ => ⟨S1x2x5632, .f32⟩
  | .local _ .vmem, ⟨24, _⟩ => ⟨S8x5632, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10_0 : Ref sig .tc := ⟨.hbm, 25, rfl⟩
abbrev main_v10_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x2x5632 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S8x2048x1024 : Shape := ⟨3, ![8, 2048, 1024]⟩
abbrev S16384x512 : Shape := ⟨2, ![16384, 512]⟩
abbrev S8x256x1024 : Shape := ⟨3, ![8, 256, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x2048x512 : Shape := ⟨3, ![8, 2048, 512]⟩
abbrev S8x256x4x256 : Shape := ⟨4, ![8, 256, 4, 256]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4x256 : Shape := ⟨4, ![8, 2048, 4, 256]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩
abbrev S8x2x5632 : Shape := ⟨3, ![8, 2, 5632]⟩
abbrev S8x2048x5632 : Shape := ⟨3, ![8, 2048, 5632]⟩
abbrev S8x2050x5632 : Shape := ⟨3, ![8, 2050, 5632]⟩
abbrev S1x5632 : Shape := ⟨2, ![1, 5632]⟩
abbrev S1x1x5632 : Shape := ⟨3, ![1, 1, 5632]⟩
abbrev S8x2048x2816 : Shape := ⟨3, ![8, 2048, 2816]⟩
abbrev S32x512x5632 : Shape := ⟨3, ![32, 512, 5632]⟩
abbrev S32x2x5632 : Shape := ⟨3, ![32, 2, 5632]⟩
abbrev S16384x1024 : Shape := ⟨2, ![16384, 1024]⟩

abbrev nBuf : Space → Nat
  | .hbm => 146
  | .vmem => 0
  | .smem => 0
  | _ => 0

abbrev hbmTy0_0 (i : Nat) : BufTy := match i % 128 with
  | 0 => ⟨S8x2048x1024, .f32⟩
  | 1 => ⟨S16384x512, .bf16⟩
  | 2 => ⟨S16384x512, .bf16⟩
  | 3 => ⟨S8x256x1024, .f32⟩
  | 4 => ⟨S8x256x1024, .f32⟩
  | 5 => ⟨S1024x1024, .f32⟩
  | 6 => ⟨S1024, .f32⟩
  | 7 => ⟨S1024x1024, .f32⟩
  | 8 => ⟨S1024x1024, .f32⟩
  | 9 => ⟨S1024, .f32⟩
  | 10 => ⟨S1024x5632, .f32⟩
  | 11 => ⟨S3x5632, .f32⟩
  | 12 => ⟨S5632, .f32⟩
  | 13 => ⟨S2816x1024, .f32⟩
  | 14 => ⟨S1024, .f32⟩
  | 15 => ⟨S16384x512, .f32⟩
  | 16 => ⟨S8x2048x512, .f32⟩
  | 17 => ⟨S16384x512, .f32⟩
  | 18 => ⟨S8x2048x512, .f32⟩
  | 19 => ⟨S8x256x4x256, .f32⟩
  | 20 => ⟨S8x256x4x256, .f32⟩
  | 21 => ⟨S8x2048x1024, .f32⟩
  | 22 => ⟨S8x2048x1024, .f32⟩
  | 23 => ⟨S8x2048x1024, .f32⟩
  | 24 => ⟨S8x2048x1024, .f32⟩
  | 25 => ⟨S_, .f32⟩
  | 26 => ⟨S8x2048, .f32⟩
  | 27 => ⟨S8x2048x1, .f32⟩
  | 28 => ⟨S_, .f32⟩
  | 29 => ⟨S8x2048x1, .f32⟩
  | 30 => ⟨S8x2048x1, .f32⟩
  | 31 => ⟨S_, .f32⟩
  | 32 => ⟨S8x2048x1, .f32⟩
  | 33 => ⟨S8x2048x1, .f32⟩
  | 34 => ⟨S8x2048x1, .f32⟩
  | 35 => ⟨S8x2048x1024, .f32⟩
  | 36 => ⟨S8x2048x1024, .f32⟩
  | 37 => ⟨S1x1x1024, .f32⟩
  | 38 => ⟨S8x2048x1024, .f32⟩
  | 39 => ⟨S8x2048x1024, .f32⟩
  | 40 => ⟨S8x2048x1024, .f32⟩
  | 41 => ⟨S8x2048x4x256, .f32⟩
  | 42 => ⟨S8x4x2048x256, .f32⟩
  | 43 => ⟨S_, .f32⟩
  | 44 => ⟨S8x4x2048x256, .f32⟩
  | 45 => ⟨S8x4x2048x256, .f32⟩
  | 46 => ⟨S_, .f32⟩
  | 47 => ⟨S8x4x2048, .f32⟩
  | 48 => ⟨S_, .f32⟩
  | 49 => ⟨S8x4x2048, .f32⟩
  | 50 => ⟨S8x4x2048, .f32⟩
  | 51 => ⟨S8x4x2048x1, .f32⟩
  | 52 => ⟨S8x4x2048x256, .f32⟩
  | 53 => ⟨S8x4x2048x256, .f32⟩
  | 54 => ⟨S8x4x2048x256, .f32⟩
  | 55 => ⟨S_, .f32⟩
  | 56 => ⟨S8x4x2048, .f32⟩
  | 57 => ⟨S8x4x2048x1, .f32⟩
  | 58 => ⟨S8x4x2048x256, .f32⟩
  | 59 => ⟨S8x4x2048x256, .f32⟩
  | 60 => ⟨S8x4x256x2048, .f32⟩
  | 61 => ⟨S8x2048x4x256, .f32⟩
  | 62 => ⟨S8x2048x1024, .f32⟩
  | 63 => ⟨S8x2048x1024, .f32⟩
  | 64 => ⟨S8x2048x1024, .f32⟩
  | 65 => ⟨S8x2048x1024, .f32⟩
  | 66 => ⟨S_, .f32⟩
  | 67 => ⟨S8x2048, .f32⟩
  | 68 => ⟨S8x2048x1, .f32⟩
  | 69 => ⟨S_, .f32⟩
  | 70 => ⟨S8x2048x1, .f32⟩
  | 71 => ⟨S8x2048x1, .f32⟩
  | 72 => ⟨S_, .f32⟩
  | 73 => ⟨S8x2048x1, .f32⟩
  | 74 => ⟨S8x2048x1, .f32⟩
  | 75 => ⟨S8x2048x1, .f32⟩
  | 76 => ⟨S8x2048x1024, .f32⟩
  | 77 => ⟨S8x2048x1024, .f32⟩
  | 78 => ⟨S1x1x1024, .f32⟩
  | 79 => ⟨S8x2048x1024, .f32⟩
  | 80 => ⟨S8x2048x1024, .f32⟩
  | 81 => ⟨S_, .f32⟩
  | 82 => ⟨S8x2x5632, .f32⟩
  | 83 => ⟨S8x2048x5632, .f32⟩
  | 84 => ⟨S8x2050x5632, .f32⟩
  | 85 => ⟨S8x2048x5632, .f32⟩
  | 86 => ⟨S1x5632, .f32⟩
  | 87 => ⟨S5632, .f32⟩
  | 88 => ⟨S1x1x5632, .f32⟩
  | 89 => ⟨S8x2048x5632, .f32⟩
  | 90 => ⟨S8x2048x5632, .f32⟩
  | 91 => ⟨S_, .f32⟩
  | 92 => ⟨S8x2048x5632, .f32⟩
  | 93 => ⟨S8x2048x5632, .f32⟩
  | 94 => ⟨S8x2048x5632, .f32⟩
  | 95 => ⟨S1x5632, .f32⟩
  | 96 => ⟨S5632, .f32⟩
  | 97 => ⟨S1x1x5632, .f32⟩
  | 98 => ⟨S8x2048x5632, .f32⟩
  | 99 => ⟨S8x2048x5632, .f32⟩
  | 100 => ⟨S8x2048x5632, .f32⟩
  | 101 => ⟨S8x2048x5632, .f32⟩
  | 102 => ⟨S1x5632, .f32⟩
  | 103 => ⟨S5632, .f32⟩
  | 104 => ⟨S1x1x5632, .f32⟩
  | 105 => ⟨S8x2048x5632, .f32⟩
  | 106 => ⟨S8x2048x5632, .f32⟩
  | 107 => ⟨S8x2048x5632, .f32⟩
  | 108 => ⟨S1x1x5632, .f32⟩
  | 109 => ⟨S8x2048x5632, .f32⟩
  | 110 => ⟨S8x2048x5632, .f32⟩
  | 111 => ⟨S8x2x5632, .f32⟩
  | 112 => ⟨S8x2048x2816, .f32⟩
  | 113 => ⟨S8x2048x2816, .f32⟩
  | 114 => ⟨S8x2048x2816, .f32⟩
  | 115 => ⟨S8x2048x2816, .f32⟩
  | 116 => ⟨S_, .f32⟩
  | 117 => ⟨S8x2048x2816, .f32⟩
  | 118 => ⟨S8x2048x2816, .f32⟩
  | 119 => ⟨S_, .f32⟩
  | 120 => ⟨S8x2048x2816, .f32⟩
  | 121 => ⟨S8x2048x2816, .f32⟩
  | 122 => ⟨S8x2048x2816, .f32⟩
  | 123 => ⟨S8x2048x2816, .f32⟩
  | 124 => ⟨S8x2048x1024, .f32⟩
  | 125 => ⟨S8x2048x5632, .f32⟩
  | 126 => ⟨S32x512x5632, .f32⟩
  | 127 => ⟨S32x2x5632, .f32⟩
  | _ => ⟨S8x2048x1024, .f32⟩

abbrev hbmTy0_1 (i : Nat) : BufTy := match i % 128 with
  | 0 => ⟨S8x2048x1024, .f32⟩
  | 1 => ⟨S8x2048x1024, .f32⟩
  | 2 => ⟨S_, .f32⟩
  | 3 => ⟨S8x2048, .f32⟩
  | 4 => ⟨S8x2048x1, .f32⟩
  | 5 => ⟨S_, .f32⟩
  | 6 => ⟨S8x2048x1, .f32⟩
  | 7 => ⟨S8x2048x1, .f32⟩
  | 8 => ⟨S_, .f32⟩
  | 9 => ⟨S8x2048x1, .f32⟩
  | 10 => ⟨S8x2048x1, .f32⟩
  | 11 => ⟨S8x2048x1, .f32⟩
  | 12 => ⟨S8x2048x1024, .f32⟩
  | 13 => ⟨S8x2048x1024, .f32⟩
  | 14 => ⟨S1x1x1024, .f32⟩
  | 15 => ⟨S8x2048x1024, .f32⟩
  | 16 => ⟨S8x2048x1024, .f32⟩
  | 17 => ⟨S16384x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_cst_7 : Ref sig .tc := ⟨.hbm, 69, rfl⟩
abbrev main_v46 : Ref sig .tc := ⟨.hbm, 70, rfl⟩
abbrev main_v47 : Ref sig .tc := ⟨.hbm, 71, rfl⟩
abbrev main_cst_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_10 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_call0_v0 : Ref sig .tc := ⟨.hbm, 114, rfl⟩
abbrev main_call0_v1 : Ref sig .tc := ⟨.hbm, 115, rfl⟩
abbrev main_call0_cst : Ref sig .tc := ⟨.hbm, 116, rfl⟩
abbrev main_call0_v2 : Ref sig .tc := ⟨.hbm, 117, rfl⟩
abbrev main_call0_v3 : Ref sig .tc := ⟨.hbm, 118, rfl⟩
abbrev main_call0_cst_0 : Ref sig .tc := ⟨.hbm, 119, rfl⟩
abbrev main_call0_v4 : Ref sig .tc := ⟨.hbm, 120, rfl⟩
abbrev main_call0_v5 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_11 : Ref sig .tc := ⟨.hbm, 130, rfl⟩
abbrev main_v95 : Ref sig .tc := ⟨.hbm, 131, rfl⟩
abbrev main_v96 : Ref sig .tc := ⟨.hbm, 132, rfl⟩
abbrev main_cst_12 : Ref sig .tc := ⟨.hbm, 133, rfl⟩
abbrev main_v97 : Ref sig .tc := ⟨.hbm, 134, rfl⟩
abbrev main_v98 : Ref sig .tc := ⟨.hbm, 135, rfl⟩
abbrev main_cst_13 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩

abbrev nD : Nat := 1
abbrev τ : Topo := Topo.v7x

variable {F : FTy → Type} [FloatOps F]
-- ==== Kernel2.lean ====
abbrev S8x2048x1024 : Shape := ⟨3, ![8, 2048, 1024]⟩
abbrev S1024 : Shape := ⟨1, ![1024]⟩
abbrev S1024x3336 : Shape := ⟨2, ![1024, 3336]⟩
abbrev S3336x1024 : Shape := ⟨2, ![3336, 1024]⟩
abbrev S1544x1024 : Shape := ⟨2, ![1544, 1024]⟩
abbrev S_ : Shape := ⟨0, ![]⟩
abbrev S248x1024 : Shape := ⟨2, ![248, 1024]⟩
abbrev S1792x1024 : Shape := ⟨2, ![1792, 1024]⟩
abbrev S3584x1024 : Shape := ⟨2, ![3584, 1024]⟩
abbrev S16384x1024 : Shape := ⟨2, ![16384, 1024]⟩
abbrev S1x1024 : Shape := ⟨2, ![1, 1024]⟩
abbrev S16384x3584 : Shape := ⟨2, ![16384, 3584]⟩
abbrev S16384x128 : Shape := ⟨2, ![16384, 128]⟩
abbrev S16x8x3584 : Shape := ⟨3, ![16, 8, 3584]⟩
abbrev S1024x1024 : Shape := ⟨2, ![1024, 1024]⟩
abbrev S1024x1792 : Shape := ⟨2, ![1024, 1792]⟩
abbrev S1024x128 : Shape := ⟨2, ![1024, 128]⟩
abbrev S1x8x1792 : Shape := ⟨3, ![1, 8, 1792]⟩
abbrev S1024x1 : Shape := ⟨2, ![1024, 1]⟩
abbrev S8x1792 : Shape := ⟨2, ![8, 1792]⟩

abbrev nBuf : Space → Nat
  | .hbm => 15
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3336, .f32⟩
  | .hbm, ⟨3, _⟩ => ⟨S3336x1024, .f32⟩
  | .hbm, ⟨4, _⟩ => ⟨S1544x1024, .f32⟩
  | .hbm, ⟨5, _⟩ => ⟨S_, .f32⟩
  | .hbm, ⟨6, _⟩ => ⟨S248x1024, .f32⟩
  | .hbm, ⟨7, _⟩ => ⟨S1792x1024, .f32⟩
  | .hbm, ⟨8, _⟩ => ⟨S3584x1024, .f32⟩
  | .hbm, ⟨9, _⟩ => ⟨S3584x1024, .bf16⟩
  | .hbm, ⟨10, _⟩ => ⟨S16384x1024, .f32⟩
  | .hbm, ⟨11, _⟩ => ⟨S1x1024, .f32⟩
  | .hbm, ⟨12, _⟩ => ⟨S16384x3584, .bf16⟩
  | .hbm, ⟨13, _⟩ => ⟨S16384x128, .f32⟩
  | .hbm, ⟨14, _⟩ => ⟨S16x8x3584, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1792x1024, .bf16⟩
  | .local _ .vmem, ⟨4, _⟩ => ⟨S1792x1024, .bf16⟩
  | .local _ .vmem, ⟨5, _⟩ => ⟨S1024x1792, .bf16⟩
  | .local _ .vmem, ⟨6, _⟩ => ⟨S1024x1792, .bf16⟩
  | .local _ .vmem, ⟨7, _⟩ => ⟨S1024x128, .f32⟩
  | .local _ .vmem, ⟨8, _⟩ => ⟨S1024x128, .f32⟩
  | .local _ .vmem, ⟨9, _⟩ => ⟨S1x8x1792, .f32⟩
  | .local _ .vmem, ⟨10, _⟩ => ⟨S1x8x1792, .f32⟩
  | .local _ .vmem, ⟨11, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c0_i32_9 : BitVec 32 := 0#32
  let v13 : BitVec 1 := Scalar.cmpi .eq arg1 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1792x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8x2048x1024 : Shape := ⟨3, ![8, 2048, 1024]⟩
abbrev S1024 : Shape := ⟨1, ![1024]⟩
abbrev S1024x3336 : Shape := ⟨2, ![1024, 3336]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3336 : Shape := ⟨3, ![8, 2048, 3336]⟩
abbrev S16384x3336 : Shape := ⟨2, ![16384, 3336]⟩
abbrev S16384x1544 : Shape := ⟨2, ![16384, 1544]⟩
abbrev S16384x248 : Shape := ⟨2, ![16384, 248]⟩
abbrev S16384x1792 : Shape := ⟨2, ![16384, 1792]⟩
abbrev S16384x3584 : Shape := ⟨2, ![16384, 3584]⟩
abbrev S16384x128 : Shape := ⟨2, ![16384, 128]⟩
abbrev S16x1024x3584 : Shape := ⟨3, ![16, 1024, 3584]⟩
abbrev S16x8x3584 : Shape := ⟨3, ![16, 8, 3584]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3336, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x3336, .f32⟩
  | .hbm, ⟨20, _⟩ => ⟨S16384x3336, .f32⟩
  | .hbm, ⟨21, _⟩ => ⟨S16384x1544, .f32⟩
  | .hbm, ⟨22, _⟩ => ⟨S_, .f32⟩
  | .hbm, ⟨23, _⟩ => ⟨S16384x248, .f32⟩
  | .hbm, ⟨24, _⟩ => ⟨S16384x1792, .f32⟩
  | .hbm, ⟨25, _⟩ => ⟨S16384x3584, .f32⟩
  | .hbm, ⟨26, _⟩ => ⟨S16384x3584, .bf16⟩
  | .hbm, ⟨27, _⟩ => ⟨S16384x128, .f32⟩
  | .hbm, ⟨28, _⟩ => ⟨S16x1024x3584, .f32⟩
  | .hbm, ⟨29, _⟩ => ⟨S16x8x3584, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel3.lean ====
abbrev S8x256x1024 : Shape := ⟨3, ![8, 256, 1024]⟩
abbrev S1024 : Shape := ⟨1, ![1024]⟩
abbrev S1024x1024 : Shape := ⟨2, ![1024, 1024]⟩
abbrev S1024x2048 : Shape := ⟨2, ![1024, 2048]⟩
abbrev S2048x1024 : Shape := ⟨2, ![2048, 1024]⟩
abbrev S1x1024 : Shape := ⟨2, ![1, 1024]⟩
abbrev S2048x4x256 : Shape := ⟨3, ![2048, 4, 256]⟩
abbrev S512x1024 : Shape := ⟨2, ![512, 1024]⟩
abbrev S512x4x256 : Shape := ⟨3, ![512, 4, 256]⟩
abbrev S512 : Shape := ⟨1, ![512]⟩
abbrev S512x1 : Shape := ⟨2, ![512, 1]⟩
abbrev S512x256 : Shape := ⟨2, ![512, 256]⟩
abbrev S512x1x256 : Shape := ⟨3, ![512, 1, 256]⟩

abbrev nBuf : Space → Nat
  | .hbm => 12
  | .vmem => 12
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x2048, .f32⟩
  | .hbm, ⟨5, _⟩ => ⟨S1024x2048, .bf16⟩
  | .hbm, ⟨6, _⟩ => ⟨S2048x1024, .f32⟩
  | .hbm, ⟨7, _⟩ => ⟨S1x1024, .f32⟩
  | .hbm, ⟨8, _⟩ => ⟨S2048x1024, .f32⟩
  | .hbm, ⟨9, _⟩ => ⟨S2048x1024, .f32⟩
  | .hbm, ⟨10, _⟩ => ⟨S2048x4x256, .f32⟩
  | .hbm, ⟨11, _⟩ => ⟨S2048x4x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x4x256, .f32⟩
  | .local _ .vmem, ⟨9, _⟩ => ⟨S512x4x256, .f32⟩
  | .local _ .vmem, ⟨10, _⟩ => ⟨S512x4x256, .f32⟩
  | .local _ .vmem, ⟨11, _⟩ => ⟨S512x4x256, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8x256x1024 : Shape := ⟨3, ![8, 256, 1024]⟩
abbrev S1024 : Shape := ⟨1, ![1024]⟩
abbrev S1024x1024 : Shape := ⟨2, ![1024, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S2048x1024 : Shape := ⟨2, ![2048, 1024]⟩
abbrev S2048x4x256 : Shape := ⟨3, ![2048, 4, 256]⟩

abbrev nBuf : Space → Nat
  | .hbm => 26
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S8x256x1024, .f32⟩
  | .hbm, ⟨21, _⟩ => ⟨S8x256x1024, .f32⟩
  | .hbm, ⟨22, _⟩ => ⟨S2048x1024, .f32⟩
  | .hbm, ⟨23, _⟩ => ⟨S2048x1024, .f32⟩
  | .hbm, ⟨24, _⟩ => ⟨S2048x4x256, .f32⟩
  | .hbm, ⟨25, _⟩ => ⟨S2048x4x256, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel4.lean ====
abbrev S128x4x1024 : Shape := ⟨3, ![128, 4, 1024]⟩
abbrev S512x512 : Shape := ⟨2, ![512, 512]⟩
abbrev S1024x1024 : Shape := ⟨2, ![1024, 1024]⟩
abbrev S1024 : Shape := ⟨1, ![1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 12
  | .vmem => 8
  | .smem => 0
  | _ => 0

abbrev bufTy : (tb : Table) → Fin (tcTables nBuf tb) → BufTy
  | .hbm, ⟨0, _⟩ => ⟨S128x4x1024, .f32⟩
  | .hbm, ⟨1, _⟩ => ⟨S512x512, .bf16⟩
  | .hbm, ⟨2, _⟩ => ⟨S512x512, .bf16⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .bf16⟩
  | .hbm, ⟨7, _⟩ => ⟨S1024x1024, .bf16⟩
  | .hbm, ⟨8, _⟩ => ⟨S512x1024, .f32⟩
  | .hbm, ⟨9, _⟩ => ⟨S1x1024, .f32⟩
  | .hbm, ⟨10, _⟩ => ⟨S512x1024, .f32⟩
  | .hbm, ⟨11, _⟩ => ⟨S512x1024, .f32⟩
  | .local _ .vmem, ⟨0, _⟩ => ⟨S512x1024, .f32⟩
  | .local _ .vmem, ⟨1, _⟩ => ⟨S512x512, .bf16⟩
  | .local _ .vmem, ⟨2, _⟩ => ⟨S512x512, .bf16⟩
  | .local _ .vmem, ⟨3, _⟩ => ⟨S1024x1024, .bf16⟩
  | .local _ .vmem, ⟨4, _⟩ => ⟨S1x1024, .f32⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference4Ideal.lean ====
abbrev S128x4x1024 : Shape := ⟨3, ![128, 4, 1024]⟩
abbrev S512x512 : Shape := ⟨2, ![512, 512]⟩
abbrev S1024x1024 : Shape := ⟨2, ![1024, 1024]⟩
abbrev S1024 : Shape := ⟨1, ![1024]⟩
abbrev S128x4x512 : Shape := ⟨3, ![128, 4, 512]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S512x1024 : Shape := ⟨2, ![512, 1024]⟩

abbrev nBuf : Space → Nat
  | .hbm => 32
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S512x512, .bf16⟩
  | .hbm, ⟨2, _⟩ => ⟨S512x512, .bf16⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S512x512, .f32⟩
  | .hbm, ⟨7, _⟩ => ⟨S128x4x512, .f32⟩
  | .hbm, ⟨8, _⟩ => ⟨S512x512, .f32⟩
  | .hbm, ⟨9, _⟩ => ⟨S128x4x512, .f32⟩
  | .hbm, ⟨10, _⟩ => ⟨S128x4x1024, .f32⟩
  | .hbm, ⟨11, _⟩ => ⟨S128x4x1024, .f32⟩
  | .hbm, ⟨12, _⟩ => ⟨S128x4x1024, .f32⟩
  | .hbm, ⟨13, _⟩ => ⟨S128x4x1024, .f32⟩
  | .hbm, ⟨14, _⟩ => ⟨S_, .f32⟩
  | .hbm, ⟨15, _⟩ => ⟨S128x4, .f32⟩
  | .hbm, ⟨16, _⟩ => ⟨S128x4x1, .f32⟩
  | .hbm, ⟨17, _⟩ => ⟨S_, .f32⟩
  | .hbm, ⟨18, _⟩ => ⟨S128x4x1, .f32⟩
  | .hbm, ⟨19, _⟩ => ⟨S128x4x1, .f32⟩
  | .hbm, ⟨20, _⟩ => ⟨S_, .f32⟩
  | .hbm, ⟨21, _⟩ => ⟨S128x4x1, .f32⟩
  | .hbm, ⟨22, _⟩ => ⟨S128x4x1, .f32⟩
  | .hbm, ⟨23, _⟩ => ⟨S128x4x1, .f32⟩
  | .hbm, ⟨24, _⟩ => ⟨S128x4x1024, .f32⟩
  | .hbm, ⟨25, _⟩ => ⟨S128x4x1024, .f32⟩
  | .hbm, ⟨26, _⟩ => ⟨S1x1x1024, .f32⟩
  | .hbm, ⟨27, _⟩ => ⟨S128x4x1024, .f32⟩
  | .hbm, ⟨28, _⟩ => ⟨S128x4x1024, .f32⟩
  | .hbm, ⟨29, _⟩ => ⟨S128x4x1024, .f32⟩
  | .hbm, ⟨30, _⟩ => ⟨S512x1024, .f32⟩
  | .hbm, ⟨31, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel5.lean ====
abbrev S128x4x1024 : Shape := ⟨3, ![128, 4, 1024]⟩
abbrev S1024 : Shape := ⟨1, ![1024]⟩
abbrev S1024x3336 : Shape := ⟨2, ![1024, 3336]⟩
abbrev S3336x1024 : Shape := ⟨2, ![3336, 1024]⟩
abbrev S1544x1024 : Shape := ⟨2, ![1544, 1024]⟩
abbrev S_ : Shape := ⟨0, ![]⟩
abbrev S248x1024 : Shape := ⟨2, ![248, 1024]⟩
abbrev S1792x1024 : Shape := ⟨2, ![1792, 1024]⟩
abbrev S3584x1024 : Shape := ⟨2, ![3584, 1024]⟩
abbrev S512x1024 : Shape := ⟨2, ![512, 1024]⟩
abbrev S1x1024 : Shape := ⟨2, ![1, 1024]⟩
abbrev S512x3584 : Shape := ⟨2, ![512, 3584]⟩
abbrev S512x128 : Shape := ⟨2, ![512, 128]⟩
abbrev S1x8x3584 : Shape := ⟨3, ![1, 8, 3584]⟩
abbrev S512x1792 : Shape := ⟨2, ![512, 1792]⟩
abbrev S1x8x1792 : Shape := ⟨3, ![1, 8, 1792]⟩
abbrev S512 : Shape := ⟨1, ![512]⟩
abbrev S512x1 : Shape := ⟨2, ![512, 1]⟩
abbrev S8x1792 : Shape := ⟨2, ![8, 1792]⟩

abbrev nBuf : Space → Nat
  | .hbm => 15
  | .vmem => 10
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1024x3336, .f32⟩
  | .hbm, ⟨3, _⟩ => ⟨S3336x1024, .f32⟩
  | .hbm, ⟨4, _⟩ => ⟨S1544x1024, .f32⟩
  | .hbm, ⟨5, _⟩ => ⟨S_, .f32⟩
  | .hbm, ⟨6, _⟩ => ⟨S248x1024, .f32⟩
  | .hbm, ⟨7, _⟩ => ⟨S1792x1024, .f32⟩
  | .hbm, ⟨8, _⟩ => ⟨S3584x1024, .f32⟩
  | .hbm, ⟨9, _⟩ => ⟨S3584x1024, .bf16⟩
  | .hbm, ⟨10, _⟩ => ⟨S512x1024, .f32⟩
  | .hbm, ⟨11, _⟩ => ⟨S1x1024, .f32⟩
  | .hbm, ⟨12, _⟩ => ⟨S512x3584, .f32⟩
  | .hbm, ⟨13, _⟩ => ⟨S512x128, .f32⟩
  | .hbm, ⟨14, _⟩ => ⟨S1x8x3584, .f32⟩
  | .local _ .vmem, ⟨0, _⟩ => ⟨S512x1024, .f32⟩
  | .local _ .vmem, ⟨1, _⟩ => ⟨S1x1024, .f32⟩
  | .local _ .vmem, ⟨2, _⟩ => ⟨S1792x1024, .bf16⟩
  | .local _ .vmem, ⟨3, _⟩ => ⟨S1792x1024, .bf16⟩
  | .local _ .vmem, ⟨4, _⟩ => ⟨S512x1792, .f32⟩
  | .local _ .vmem, ⟨5, _⟩ => ⟨S512x1792, .f32⟩
  | .local _ .vmem, ⟨6, _⟩ => ⟨S512x128, .f32⟩
  | .local _ .vmem, ⟨7, _⟩ => ⟨S1x8x1792, .f32⟩
  | .local _ .vmem, ⟨8, _⟩ => ⟨S1x8x1792, .f32⟩
  | .local _ .vmem, ⟨9, _⟩ => ⟨S512x1024, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c0_i32_9 : BitVec 32 := 0#32
  let v12 : BitVec 1 := Scalar.cmpi .eq arg1 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1792x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S1x8x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S128x4x1024 : Shape := ⟨3, ![128, 4, 1024]⟩
abbrev S1024 : Shape := ⟨1, ![1024]⟩
abbrev S1024x3336 : Shape := ⟨2, ![1024, 3336]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x3336 : Shape := ⟨3, ![128, 4, 3336]⟩
abbrev S512x3336 : Shape := ⟨2, ![512, 3336]⟩
abbrev S512x1544 : Shape := ⟨2, ![512, 1544]⟩
abbrev S512x248 : Shape := ⟨2, ![512, 248]⟩
abbrev S512x1792 : Shape := ⟨2, ![512, 1792]⟩
abbrev S512x3584 : Shape := ⟨2, ![512, 3584]⟩
abbrev S512x128 : Shape := ⟨2, ![512, 128]⟩
abbrev S1x512x3584 : Shape := ⟨3, ![1, 512, 3584]⟩
abbrev S1x8x3584 : Shape := ⟨3, ![1, 8, 3584]⟩

abbrev nBuf : Space → Nat
  | .hbm => 29
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1024x3336, .f32⟩
  | .hbm, ⟨3, _⟩ => ⟨S128x4x1024, .f32⟩
  | .hbm, ⟨4, _⟩ => ⟨S_, .f32⟩
  | .hbm, ⟨5, _⟩ => ⟨S128x4, .f32⟩
  | .hbm, ⟨6, _⟩ => ⟨S128x4x1, .f32⟩
  | .hbm, ⟨7, _⟩ => ⟨S_, .f32⟩
  | .hbm, ⟨8, _⟩ => ⟨S128x4x1, .f32⟩
  | .hbm, ⟨9, _⟩ => ⟨S128x4x1, .f32⟩
  | .hbm, ⟨10, _⟩ => ⟨S_, .f32⟩
  | .hbm, ⟨11, _⟩ => ⟨S128x4x1, .f32⟩
  | .hbm, ⟨12, _⟩ => ⟨S128x4x1, .f32⟩
  | .hbm, ⟨13, _⟩ => ⟨S128x4x1, .f32⟩
  | .hbm, ⟨14, _⟩ => ⟨S128x4x1024, .f32⟩
  | .hbm, ⟨15, _⟩ => ⟨S128x4x1024, .f32⟩
  | .hbm, ⟨16, _⟩ => ⟨S1x1x1024, .f32⟩
  | .hbm, ⟨17, _⟩ => ⟨S128x4x1024, .f32⟩
  | .hbm, ⟨18, _⟩ => ⟨S128x4x1024, .f32⟩
  | .hbm, ⟨19, _⟩ => ⟨S128x4x3336, .f32⟩
  | .hbm, ⟨20, _⟩ => ⟨S512x3336, .f32⟩
  | .hbm, ⟨21, _⟩ => ⟨S512x1544, .f32⟩
  | .hbm, ⟨22, _⟩ => ⟨S_, .f32⟩
  | .hbm, ⟨23, _⟩ => ⟨S512x248, .f32⟩
  | .hbm, ⟨24, _⟩ => ⟨S512x1792, .f32⟩
  | .hbm, ⟨25, _⟩ => ⟨S512x3584, .f32⟩
  | .hbm, ⟨26, _⟩ => ⟨S512x128, .f32⟩
  | .hbm, ⟨27, _⟩ => ⟨S1x512x3584, .f32⟩
  | .hbm, ⟨28, _⟩ => ⟨S1x8x3584, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel6.lean ====
abbrev S512x3584 : Shape := ⟨2, ![512, 3584]⟩
abbrev S512x128 : Shape := ⟨2, ![512, 128]⟩
abbrev S128x3x1024 : Shape := ⟨3, ![128, 3, 1024]⟩
abbrev S128x8x64x128 : Shape := ⟨4, ![128, 8, 64, 128]⟩
abbrev S4x1024 : Shape := ⟨2, ![4, 1024]⟩
abbrev S1024 : Shape := ⟨1, ![1024]⟩
abbrev S8 : Shape := ⟨1, ![8]⟩
abbrev S512 : Shape := ⟨1, ![512]⟩
abbrev S3 : Shape := ⟨1, ![3]⟩
abbrev S3x128x1024 : Shape := ⟨3, ![3, 128, 1024]⟩
abbrev S128x4x128x128 : Shape := ⟨4, ![128, 4, 128, 128]⟩
abbrev S_ : Shape := ⟨0, ![]⟩
abbrev S1x128 : Shape := ⟨2, ![1, 128]⟩
abbrev S1 : Shape := ⟨1, ![1]⟩
abbrev S2 : Shape := ⟨1, ![2]⟩
abbrev S8x64 : Shape := ⟨2, ![8, 64]⟩
abbrev S1x512 : Shape := ⟨2, ![1, 512]⟩
abbrev S1x1024 : Shape := ⟨2, ![1, 1024]⟩
abbrev S48 : Shape := ⟨1, ![48]⟩
abbrev S48x1 : Shape := ⟨2, ![48, 1]⟩
abbrev S64 : Shape := ⟨1, ![64]⟩
abbrev S1x64 : Shape := ⟨2, ![1, 64]⟩
abbrev S48x64 : Shape := ⟨2, ![48, 64]⟩
abbrev S512x512 : Shape := ⟨2, ![512, 512]⟩
abbrev S384x1024 : Shape := ⟨2, ![384, 1024]⟩
abbrev S64x1792 : Shape := ⟨2, ![64, 1792]⟩
abbrev S64x128 : Shape := ⟨2, ![64, 128]⟩
abbrev S3x16x1024 : Shape := ⟨3, ![3, 16, 1024]⟩
abbrev S16x4x128x128 : Shape := ⟨4, ![16, 4, 128, 128]⟩
abbrev S64x512 : Shape := ⟨2, ![64, 512]⟩
abbrev S48x1024 : Shape := ⟨2, ![48, 1024]⟩
abbrev S64x1 : Shape := ⟨2, ![64, 1]⟩
abbrev S64x1024 : Shape := ⟨2, ![64, 1024]⟩
abbrev S48x192 : Shape := ⟨2, ![48, 192]⟩
abbrev S192x1024 : Shape := ⟨2, ![192, 1024]⟩
abbrev S1x16x1024 : Shape := ⟨3, ![1, 16, 1024]⟩
abbrev S16x1024 : Shape := ⟨2, ![16, 1024]⟩
abbrev S64x16 : Shape := ⟨2, ![64, 16]⟩
abbrev S64x48 : Shape := ⟨2, ![64, 48]⟩
abbrev S64x256 : Shape := ⟨2, ![64, 256]⟩
abbrev S64x64 : Shape := ⟨2, ![64, 64]⟩
abbrev S64x192 : Shape := ⟨2, ![64, 192]⟩
abbrev S192x128 : Shape := ⟨2, ![192, 128]⟩
abbrev S128x64 : Shape := ⟨2, ![128, 64]⟩
abbrev S128x128 : Shape := ⟨2, ![128, 128]⟩
abbrev S64x2048 : Shape := ⟨2, ![64, 2048]⟩
abbrev S1x1x128x128 : Shape := ⟨4, ![1, 1, 128, 128]⟩
abbrev S128x2048 : Shape := ⟨2, ![128, 2048]⟩
abbrev S1x1 : Shape := ⟨2, ![1, 1]⟩

abbrev nBuf : Space → Nat
  | .hbm => 100
  | .vmem => 21
  | .smem => 0
  | _ => 0

abbrev bufTy : (tb : Table) → Fin (tcTables nBuf tb) → BufTy
  | .hbm, ⟨0, _⟩ => ⟨S512x3584, .f32⟩
  | .hbm, ⟨1, _⟩ => ⟨S512x128, .f32⟩
  | .hbm, ⟨2, _⟩ => ⟨S128x3x1024, .f32⟩
  | .hbm, ⟨3, _⟩ => ⟨S128x8x64x128, .f32⟩
  | .hbm, ⟨4, _⟩ => ⟨S4x1024, .f32⟩
  | .hbm, ⟨5, _⟩ => ⟨S1024, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S512, .f32⟩
  | .hbm, ⟨10, _⟩ => ⟨S3, .i32⟩
  | .hbm, ⟨11, _⟩ => ⟨S3x128x1024, .f32⟩
  | .hbm, ⟨12, _⟩ => ⟨S128x4x128x128, .f32⟩
  | .hbm, ⟨13, _⟩ => ⟨S_, .f32⟩
  | .hbm, ⟨14, _⟩ => ⟨S1x128, .f32⟩
  | .hbm, ⟨15, _⟩ => ⟨S8, .f32⟩
  | .hbm, ⟨16, _⟩ => ⟨S8, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S1x128, .f32⟩
  | .hbm, ⟨23, _⟩ => ⟨S_, .f32⟩
  | .hbm, ⟨24, _⟩ => ⟨S1x128, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S1x128, .f32⟩
  | .hbm, ⟨31, _⟩ => ⟨S8x64, .f32⟩
  | .hbm, ⟨32, _⟩ => ⟨S512, .f32⟩
  | .hbm, ⟨33, _⟩ => ⟨S1x512, .f32⟩
  | .hbm, ⟨34, _⟩ => ⟨S1x1024, .f32⟩
  | .hbm, ⟨35, _⟩ => ⟨S1x512, .f32⟩
  | .hbm, ⟨36, _⟩ => ⟨S48, .i32⟩
  | .hbm, ⟨37, _⟩ => ⟨S_, .i32⟩
  | .hbm, ⟨38, _⟩ => ⟨S_, .i32⟩
  | .hbm, ⟨39, _⟩ => ⟨S48, .i32⟩
  | .hbm, ⟨40, _⟩ => ⟨S48, .i32⟩
  | .hbm, ⟨41, _⟩ => ⟨S48, .i32⟩
  | .hbm, ⟨42, _⟩ => ⟨S_, .i32⟩
  | .hbm, ⟨43, _⟩ => ⟨S48, .i32⟩
  | .hbm, ⟨44, _⟩ => ⟨S48, .i1⟩
  | .hbm, ⟨45, _⟩ => ⟨S48, .i32⟩
  | .hbm, ⟨46, _⟩ => ⟨S48, .i32⟩
  | .hbm, ⟨47, _⟩ => ⟨S_, .i32⟩
  | .hbm, ⟨48, _⟩ => ⟨S48, .i32⟩
  | .hbm, ⟨49, _⟩ => ⟨S48, .i1⟩
  | .hbm, ⟨50, _⟩ => ⟨S48, .i1⟩
  | .hbm, ⟨51, _⟩ => ⟨S_, .i32⟩
  | .hbm, ⟨52, _⟩ => ⟨S48, .i32⟩
  | .hbm, ⟨53, _⟩ => ⟨S48, .i32⟩
  | .hbm, ⟨54, _⟩ => ⟨S48, .i32⟩
  | .hbm, ⟨55, _⟩ => ⟨S_, .i32⟩
  | .hbm, ⟨56, _⟩ => ⟨S48, .i32⟩
  | .hbm, ⟨57, _⟩ => ⟨S48, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S48, .i32⟩
  | .hbm, ⟨65, _⟩ => ⟨S48, .i32⟩
  | .hbm, ⟨66, _⟩ => ⟨S_, .i32⟩
  | .hbm, ⟨67, _⟩ => ⟨S48, .i32⟩
  | .hbm, ⟨68, _⟩ => ⟨S48, .i1⟩
  | .hbm, ⟨69, _⟩ => ⟨S_, .i32⟩
  | .hbm, ⟨70, _⟩ => ⟨S48, .i32⟩
  | .hbm, ⟨71, _⟩ => ⟨S48, .i1⟩
  | .hbm, ⟨72, _⟩ => ⟨S_, .i32⟩
  | .hbm, ⟨73, _⟩ => ⟨S_, .i1⟩
  | .hbm, ⟨74, _⟩ => ⟨S48, .i1⟩
  | .hbm, ⟨75, _⟩ => ⟨S48, .i1⟩
  | .hbm, ⟨76, _⟩ => ⟨S48, .i1⟩
  | .hbm, ⟨77, _⟩ => ⟨S48, .i32⟩
  | .hbm, ⟨78, _⟩ => ⟨S48, .i32⟩
  | .hbm, ⟨79, _⟩ => ⟨S48, .i32⟩
  | .hbm, ⟨80, _⟩ => ⟨S_, .i32⟩
  | .hbm, ⟨81, _⟩ => ⟨S48, .i32⟩
  | .hbm, ⟨82, _⟩ => ⟨S48, .i1⟩
  | .hbm, ⟨83, _⟩ => ⟨S_, .i32⟩
  | .hbm, ⟨84, _⟩ => ⟨S48, .i32⟩
  | .hbm, ⟨85, _⟩ => ⟨S48, .i32⟩
  | .hbm, ⟨86, _⟩ => ⟨S48, .i32⟩
  | .hbm, ⟨87, _⟩ => ⟨S48x1, .i32⟩
  | .hbm, ⟨88, _⟩ => ⟨S48, .i32⟩
  | .hbm, ⟨89, _⟩ => ⟨S48, .i32⟩
  | .hbm, ⟨90, _⟩ => ⟨S48x1, .i32⟩
  | .hbm, ⟨91, _⟩ => ⟨S64, .i32⟩
  | .hbm, ⟨92, _⟩ => ⟨S1x64, .i32⟩
  | .hbm, ⟨93, _⟩ => ⟨S48x64, .i32⟩
  | .hbm, ⟨94, _⟩ => ⟨S48x64, .i32⟩
  | .hbm, ⟨95, _⟩ => ⟨S48x64, .i1⟩
  | .hbm, ⟨96, _⟩ => ⟨S48x64, .bf16⟩
  | .hbm, ⟨97, _⟩ => ⟨S512x512, .bf16⟩
  | .hbm, ⟨98, _⟩ => ⟨S128x4x128x128, .f32⟩
  | .hbm, ⟨99, _⟩ => ⟨S384x1024, .f32⟩
  | .local _ .vmem, ⟨0, _⟩ => ⟨S64x1792, .f32⟩
  | .local _ .vmem, ⟨1, _⟩ => ⟨S64x1792, .f32⟩
  | .local _ .vmem, ⟨2, _⟩ => ⟨S64x128, .f32⟩
  | .local _ .vmem, ⟨3, _⟩ => ⟨S64x128, .f32⟩
  | .local _ .vmem, ⟨4, _⟩ => ⟨S3x16x1024, .f32⟩
  | .local _ .vmem, ⟨5, _⟩ => ⟨S3x16x1024, .f32⟩
  | .local _ .vmem, ⟨6, _⟩ => ⟨S16x4x128x128, .f32⟩
  | .local _ .vmem, ⟨7, _⟩ => ⟨S16x4x128x128, .f32⟩
  | .local _ .vmem, ⟨8, _⟩ => ⟨S48x64, .bf16⟩
  | .local _ .vmem, ⟨9, _⟩ => ⟨S4x1024, .f32⟩
  | .local _ .vmem, ⟨10, _⟩ => ⟨S1x1024, .f32⟩
  | .local _ .vmem, ⟨11, _⟩ => ⟨S1x128, .f32⟩
  | .local _ .vmem, ⟨12, _⟩ => ⟨S1x128, .f32⟩
  | .local _ .vmem, ⟨13, _⟩ => ⟨S1x512, .f32⟩
  | .local _ .vmem, ⟨14, _⟩ => ⟨S1x512, .f32⟩
  | .local _ .vmem, ⟨15, _⟩ => ⟨S64x512, .bf16⟩
  | .local _ .vmem, ⟨16, _⟩ => ⟨S64x512, .bf16⟩
  | .local _ .vmem, ⟨17, _⟩ => ⟨S16x4x128x128, .f32⟩
  | .local _ .vmem, ⟨18, _⟩ => ⟨S16x4x128x128, .f32⟩
  | .local _ .vmem, ⟨19, _⟩ => ⟨S48x1024, .f32⟩
  | .local _ .vmem, ⟨20, _⟩ => ⟨S48x1024, .f32⟩
  | _, _ => ⟨S512x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_c_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_c_3 : Ref sig .tc := ⟨.hbm, 25, rfl⟩
abbrev main_v10 : Ref sig .tc := ⟨.hbm, 26, rfl⟩
abbrev main_c_4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_5 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_c : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_0 : Ref sig .tc := ⟨.hbm, 51, rfl⟩
abbrev main_call0_v12 : Ref sig .tc := ⟨.hbm, 52, rfl⟩
abbrev main_call0_v13 : Ref sig .tc := ⟨.hbm, 53, rfl⟩
abbrev main_v20 : Ref sig .tc := ⟨.hbm, 54, rfl⟩
abbrev main_c_6 : Ref sig .tc := ⟨.hbm, 55, rfl⟩
abbrev main_v21 : Ref sig .tc := ⟨.hbm, 56, rfl⟩
abbrev main_v22 : Ref sig .tc := ⟨.hbm, 57, rfl⟩
abbrev main_c_7 : Ref sig .tc := ⟨.hbm, 58, rfl⟩
abbrev main_call1_v0 : Ref sig .tc := ⟨.hbm, 59, rfl⟩
abbrev main_call1_c : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_c_1 : Ref sig .tc := ⟨.hbm, 66, rfl⟩
abbrev main_call1_v5 : Ref sig .tc := ⟨.hbm, 67, rfl⟩
abbrev main_call1_v6 : Ref sig .tc := ⟨.hbm, 68, rfl⟩
abbrev main_call1_c_2 : Ref sig .tc := ⟨.hbm, 69, rfl⟩
abbrev main_call1_v7 : Ref sig .tc := ⟨.hbm, 70, rfl⟩
abbrev main_call1_v8 : Ref sig .tc := ⟨.hbm, 71, rfl⟩
abbrev main_call1_c_3 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_v23 : Ref sig .tc := ⟨.hbm, 79, rfl⟩
abbrev main_c_8 : Ref sig .tc := ⟨.hbm, 80, rfl⟩
abbrev main_v24 : Ref sig .tc := ⟨.hbm, 81, rfl⟩
abbrev main_v25 : Ref sig .tc := ⟨.hbm, 82, rfl⟩
abbrev main_c_9 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39_0 : Ref sig .tc := ⟨.hbm, 97, rfl⟩
abbrev main_v39_1 : Ref sig .tc := ⟨.hbm, 98, rfl⟩
abbrev main_v39_2 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S48x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S64x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x4x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S48x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference6Ideal.lean ====
abbrev S512x3584 : Shape := ⟨2, ![512, 3584]⟩
abbrev S512x128 : Shape := ⟨2, ![512, 128]⟩
abbrev S128x3x1024 : Shape := ⟨3, ![128, 3, 1024]⟩
abbrev S128x8x64x128 : Shape := ⟨4, ![128, 8, 64, 128]⟩
abbrev S4x1024 : Shape := ⟨2, ![4, 1024]⟩
abbrev S1024 : Shape := ⟨1, ![1024]⟩
abbrev S8 : Shape := ⟨1, ![8]⟩
abbrev S512 : Shape := ⟨1, ![512]⟩
abbrev S128x4x3584 : Shape := ⟨3, ![128, 4, 3584]⟩
abbrev S128x4x1024 : Shape := ⟨3, ![128, 4, 1024]⟩
abbrev S128x7x1024 : Shape := ⟨3, ![128, 7, 1024]⟩
abbrev S384x1024 : Shape := ⟨2, ![384, 1024]⟩

abbrev nBuf : Space → Nat
  | .hbm => 15
  | .vmem => 0
  | .smem => 0
  | _ => 0

abbrev bufTy : (tb : Table) → Fin (tcTables nBuf tb) → BufTy
  | .hbm, ⟨0, _⟩ => ⟨S512x3584, .f32⟩
  | .hbm, ⟨1, _⟩ => ⟨S512x128, .f32⟩
  | .hbm, ⟨2, _⟩ => ⟨S128x3x1024, .f32⟩
  | .hbm, ⟨3, _⟩ => ⟨S128x8x64x128, .f32⟩
  | .hbm, ⟨4, _⟩ => ⟨S4x1024, .f32⟩
  | .hbm, ⟨5, _⟩ => ⟨S1024, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S512, .f32⟩
  | .hbm, ⟨10, _⟩ => ⟨S128x4x3584, .f32⟩
  | .hbm, ⟨11, _⟩ => ⟨S128x4x1024, .f32⟩
  | .hbm, ⟨12, _⟩ => ⟨S128x7x1024, .f32⟩
  | .hbm, ⟨13, _⟩ => ⟨S128x3x1024, .f32⟩
  | .hbm, ⟨14, _⟩ => ⟨S384x1024, .f32⟩
  | _, _ => ⟨S512x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩

abbrev nD : Nat := 1
abbrev τ : Topo := Topo.v7x

variable {F : FTy → Type} [FloatOps F]
-- ==== Proof.Block.lean ====
/-
  What one grid point of the kernel computes from the blocks it loads, written with the kernel's own operations: the
  mixers' projection, the four attention heads, the eleven tiles of the feed-forward network (each a gate column block
  and a value column block of 256 columns), the down-projection and the last norm; and the proof that the generated
  description of the point's stores is this.
-/
module

public import proofs.«01_k».proof.Proof.Gen.KernelIdeal.Value
public import Idealize.ShloMosaic.Lib.Tactic
public import Idealize.ShloMosaic.Lib.Pipeline.ValueKit
public import Idealize.ShloMosaic.Lib.Pipeline.ReadBack

@[expose] public section

set_option maxRecDepth 16384

noncomputable section

namespace Cert.Layer.Blk

open Cert.KernelIdeal Cert.KernelIdeal.Gen Cert.KernelIdeal.Value Idealize.ShloMosaic Idealize.ShloMosaic.TcCoe Idealize.SL.Sem

variable {F : FTy → Type} [FloatOps F]

/-- One head's scores turned into weights and applied to the head's values. -/
def weighed (s : FVec F S512x256 .f32) (v : Vec F S1x256x256 .f32) : FVec F S512x256 .f32 :=
  have e : FVec F S512x256 .f32 := exp (subf s (broadcastTo S512x256 (shapeCast S512x1
    (multiReduction .maximumf [1] S512 s 0xFF800000#32 reduces_S512x256_S512 (.inl rfl) rfl) shapeCasts_S512_S512x1) broadcasts_S512x1_S512x256))
  have p : FVec F S512x256 .f32 := divf e (broadcastTo S512x256 (shapeCast S512x1
    (multiReduction .add [1] S512 e 0x00000000#32 reduces_S512x256_S512 (.inl rfl) rfl) shapeCasts_S512_S512x1) broadcasts_S512x1_S512x256)
  matmul dot_S512x256_S256x256_S512x256_1_0_0_1_n_n none (truncf .bf16 p bitsLt_bf16_f32)
    (truncf .bf16 (shapeCast S256x256 v shapeCasts_S1x256x256_S256x256) bitsLt_bf16_f32) (constant S512x256 .f32 0x00000000#32)

/-- One head's scores: the head's query columns against the head's keys. -/
def scores (q : FVec F S512x256 .bf16) (k : Vec F S1x256x256 .f32) : FVec F S512x256 .f32 :=
  matmul dot_S512x256_S256x256_S512x256_1_1_0_0_n_n none q
    (truncf .bf16 (shapeCast S256x256 k shapeCasts_S1x256x256_S256x256) bitsLt_bf16_f32) (constant S512x256 .f32 0x00000000#32)

/-- The residual stream after the attention's output projection, from the four heads' results. -/
def joined (x : FVec F S512x1024 .f32) (h0 h1 h2 h3 : FVec F S512x256 .f32) (w : Vec F S1024x1024 .bf16) : FVec F S512x1024 .f32 :=
  addf x (matmul dot_S512x1024_S1024x1024_S512x1024_1_0_0_1_n_n none
    (truncf .bf16 (concatenate S512x1024 1 [⟨S512x256, h0⟩, ⟨S512x256, h1⟩, ⟨S512x256, h2⟩, ⟨S512x256, h3⟩]
      concatenates_S512x256_S512x256_S512x256_S512x256_S512x1024_d1) bitsLt_bf16_f32)
    (shapeCast S1024x1024 w shapeCasts_S1024x1024_S1024x1024) (constant S512x1024 .f32 0x00000000#32))

/-- Whether the row number of an eight-row block is at least `n`. -/
def rowsFrom (n : BitVec 32) : IVec S8x256 1 :=
  broadcastTo S8x256 (shapeCast S8x1 (cmpi .sge (iota Kind.tc S8x1 32 [0] iota_S8x1_d0_w32) (broadcast S8x1 n)) shapeCasts_S8x1_S8x1) broadcasts_S8x1_S8x256

/-- Whether the row number of an eight-row block is zero. -/
def rowZero : IVec S8x256 1 :=
  broadcastTo S8x256 (shapeCast S8x1 (cmpi .eq (iota Kind.tc S8x1 32 [0] iota_S8x1_d0_w32) (broadcast S8x1 0#32)) shapeCasts_S8x1_S8x1) broadcasts_S8x1_S8x256

/-- The last of the carried rows, under every row of an eight-row block. -/
def carried7 (c : Vec F S8x256 .f32) : FVec F S8x256 .f32 :=
  broadcastTo S8x256 (shapeCast S1x256 (extractStridedSlice S1x256 ![7, 0] c slices_S8x256_o7_0_S1x256) shapeCasts_S1x256_S1x256) broadcasts_S1x256_S8x256

/-- The last but one of the carried rows, under every row of an eight-row block. -/
def carried6 (c : Vec F S8x256 .f32) : FVec F S8x256 .f32 :=
  broadcastTo S8x256 (shapeCast S1x256 (extractStridedSlice S1x256 ![6, 0] c slices_S8x256_o6_0_S1x256) shapeCasts_S1x256_S1x256) broadcasts_S1x256_S8x256

/-- The first eight rows of a column block. -/
def top8 (u : FVec F S512x256 .f32) : FVec F S8x256 .f32 := extractStridedSlice S8x256 ![0, 0] u slices_S512x256_o0_0_S8x256

/-- The row before each of the first eight rows. -/
def before1 (u : FVec F S512x256 .f32) (c : Vec F S8x256 .f32) : FVec F S8x256 .f32 :=
  select (rowsFrom 1#32) (dynamicRotate 0 1#32 none (top8 u) rotates_S8x256_d0) (carried7 c)

/-- The row two before each of the first eight rows. -/
def before2 (u : FVec F S512x256 .f32) (c : Vec F S8x256 .f32) : FVec F S8x256 .f32 :=
  select (rowsFrom 2#32) (dynamicRotate 0 2#32 none (top8 u) rotates_S8x256_d0) (select rowZero (carried6 c) (carried7 c))

/-- The first eight rows of the convolution. -/
def convHead (u : FVec F S512x256 .f32) (cw : Vec F S3x256 .f32) (cb : Vec F S1x256 .f32) (c : Vec F S8x256 .f32) : FVec F S8x256 .f32 :=
  addf (addf (addf
    (mulf (broadcastTo S8x256 (extractStridedSlice S1x256 ![0, 0] cw slices_S3x256_o0_0_S1x256) broadcasts_S1x256_S8x256) (before2 u c))
    (mulf (broadcastTo S8x256 (extractStridedSlice S1x256 ![1, 0] cw slices_S3x256_o1_0_S1x256) broadcasts_S1x256_S8x256) (before1 u c)))
    (mulf (broadcastTo S8x256 (extractStridedSlice S1x256 ![2, 0] cw slices_S3x256_o2_0_S1x256) broadcasts_S1x256_S8x256) (top8 u)))
    (broadcastTo S8x256 (shapeCast S1x256 cb shapeCasts_S1x256_S1x256) broadcasts_S1x256_S8x256)

/-- The convolution with the rows of the block itself, rotated: right from the third row on. -/
def convBody (u : FVec F S512x256 .f32) (cw : Vec F S3x256 .f32) (cb : Vec F S1x256 .f32) : FVec F S512x256 .f32 :=
  addf (addf (addf
    (mulf (broadcastTo S512x256 (extractStridedSlice S1x256 ![0, 0] cw slices_S3x256_o0_0_S1x256) broadcasts_S1x256_S512x256) (dynamicRotate 0 2#32 none u rotates_S512x256_d0))
    (mulf (broadcastTo S512x256 (extractStridedSlice S1x256 ![1, 0] cw slices_S3x256_o1_0_S1x256) broadcasts_S1x256_S512x256) (dynamicRotate 0 1#32 none u rotates_S512x256_d0)))
    (mulf (broadcastTo S512x256 (extractStridedSlice S1x256 ![2, 0] cw slices_S3x256_o2_0_S1x256) broadcasts_S1x256_S512x256) u))
    (broadcastTo S512x256 (shapeCast S1x256 cb shapeCasts_S1x256_S1x256) broadcasts_S1x256_S512x256)

/-- The convolution of one column block, the two rows before the block taken from the carried rows. -/
def convolved (u : FVec F S512x256 .f32) (cw : Vec F S3x256 .f32) (cb : Vec F S1x256 .f32) (c : Vec F S8x256 .f32) : FVec F S512x256 .f32 :=
  concatenate S512x256 0 [⟨S8x256, convHead u cw cb c⟩,
    ⟨S504x256, extractStridedSlice S504x256 ![8, 0] (convBody u cw cb) slices_S512x256_o8_0_S504x256⟩] concatenates_S8x256_S504x256_S512x256_d0

/-- The gate's own product with its sigmoid, the sigmoid by the hyperbolic tangent. -/
def swished (g : FVec F S512x256 .f32) : FVec F S512x256 .f32 :=
  mulf g (addf (broadcast S512x256 (Scalar.ofBits .f32 0x3F000000#32)) (mulf (broadcast S512x256 (Scalar.ofBits .f32 0x3F000000#32))
    (tanh (mulf (broadcast S512x256 (Scalar.ofBits .f32 0x3F000000#32)) g))))

theorem cols_inb {n : ℕ} (o : ℕ) (h : o + 256 ≤ 5632) :
    ∀ a, (![0, o] : Fin 2 → ℕ) a + (⟨2, ![n, 256]⟩ : Shape).size a ≤ (⟨2, ![n, 5632]⟩ : Shape).size a := by
  intro a
  fin_cases a
  · show 0 + n ≤ n; omega
  · show o + 256 ≤ 5632; exact h

/-- The up-projection of one column block. -/
def lifted (hn : FVec F S512x1024 .bf16) (w : Vec F S1024x5632 .bf16) (o : ℕ) (h : o + 256 ≤ 5632) : FVec F S512x256 .f32 :=
  matmul dot_S512x1024_S1024x256_S512x256_1_0_0_1_n_n none hn
    (shapeCast S1024x256 (View.ld w (Rect.unit (s := S1024x5632) ![0, o] S1024x256.size (cols_inb o h))) shapeCasts_S1024x256_S1024x256)
    (constant S512x256 .f32 0x00000000#32)

/-- The convolution of the column block at column `o`. -/
def convAt (hn : FVec F S512x1024 .bf16) (w : Vec F S1024x5632 .bf16) (cw : Vec F S3x5632 .f32) (cb : Vec F S1x5632 .f32) (c : Vec F S8x5632 .f32)
    (o : ℕ) (h : o + 256 ≤ 5632) : FVec F S512x256 .f32 :=
  convolved (lifted hn w o h) (View.ld cw (Rect.unit (s := S3x5632) ![0, o] S3x256.size (cols_inb o h)))
    (View.ld cb (Rect.unit (s := S1x5632) ![0, o] S1x256.size (cols_inb o h)))
    (View.ld c (Rect.unit (s := S8x5632) ![0, o] S8x256.size (cols_inb o h)))

/-- One tile of activations: gates from the column block at `o`, values from the one at `2816 + o`. -/
def actAt (hn : FVec F S512x1024 .bf16) (w : Vec F S1024x5632 .bf16) (cw : Vec F S3x5632 .f32) (cb : Vec F S1x5632 .f32) (c : Vec F S8x5632 .f32)
    (o : ℕ) (h : o + 256 ≤ 2816) : FVec F S512x256 .bf16 :=
  truncf .bf16 (mulf (swished (convAt hn w cw cb c o (by omega))) (convAt hn w cw cb c (2816 + o) (by omega))) bitsLt_bf16_f32

/-- All activations: the eleven tiles side by side. -/
def acts (hn : FVec F S512x1024 .bf16) (w : Vec F S1024x5632 .bf16) (cw : Vec F S3x5632 .f32) (cb : Vec F S1x5632 .f32) (c : Vec F S8x5632 .f32) :
    FVec F S512x2816 .bf16 :=
  concatenate S512x2816 1 [⟨S512x256, actAt hn w cw cb c 0 (by omega)⟩, ⟨S512x256, actAt hn w cw cb c 256 (by omega)⟩, ⟨S512x256, actAt hn w cw cb c 512 (by omega)⟩, ⟨S512x256, actAt hn w cw cb c 768 (by omega)⟩, ⟨S512x256, actAt hn w cw cb c 1024 (by omega)⟩, ⟨S512x256, actAt hn w cw cb c 1280 (by omega)⟩, ⟨S512x256, actAt hn w cw cb c 1536 (by omega)⟩, ⟨S512x256, actAt hn w cw cb c 1792 (by omega)⟩, ⟨S512x256, actAt hn w cw cb c 2048 (by omega)⟩, ⟨S512x256, actAt hn w cw cb c 2304 (by omega)⟩, ⟨S512x256, actAt hn w cw cb c 2560 (by omega)⟩] concatenates_S512x256_S512x256_S512x256_S512x256_S512x256_S512x256_S512x256_S512x256_S512x256_S512x256_S512x256_S512x2816_d1

/-- The residual stream after the cross attention, from the blocks. -/
def crossed (x0 : Vec F S512x1024 .f32) (x1 : Vec F S512x512 .bf16) (x2 : Vec F S512x512 .bf16) (x3 : Vec F S1x256x1024 .f32) (x4 : Vec F S1x256x1024 .f32) (x5 : Vec F S1024x1024 .bf16) (x6 : Vec F S1x1024 .f32) (x7 : Vec F S1024x1024 .bf16) (x8 : Vec F S1024x1024 .bf16) : FVec F S512x1024 .f32 :=
  joined (k0_pay2 x5 x0 x1 x2)
    (weighed (scores (extractStridedSlice S512x256 ![0, 0] (k0_pay3 x5 x0 x1 x2 x6 x7) slices_S512x1024_o0_0_S512x256) (View.ld x3 (Rect.unit (s := S1x256x1024) ![0, 0, 0] S1x256x256.size inb_S1x256x1024_S1x256x256_0_0_0)))
      (View.ld x4 (Rect.unit (s := S1x256x1024) ![0, 0, 0] S1x256x256.size inb_S1x256x1024_S1x256x256_0_0_0)))
    (weighed (scores (extractStridedSlice S512x256 ![0, 256] (k0_pay3 x5 x0 x1 x2 x6 x7) slices_S512x1024_o0_256_S512x256) (View.ld x3 (Rect.unit (s := S1x256x1024) ![0, 0, 256] S1x256x256.size inb_S1x256x1024_S1x256x256_0_0_256)))
      (View.ld x4 (Rect.unit (s := S1x256x1024) ![0, 0, 256] S1x256x256.size inb_S1x256x1024_S1x256x256_0_0_256)))
    (weighed (scores (extractStridedSlice S512x256 ![0, 512] (k0_pay3 x5 x0 x1 x2 x6 x7) slices_S512x1024_o0_512_S512x256) (View.ld x3 (Rect.unit (s := S1x256x1024) ![0, 0, 512] S1x256x256.size inb_S1x256x1024_S1x256x256_0_0_512)))
      (View.ld x4 (Rect.unit (s := S1x256x1024) ![0, 0, 512] S1x256x256.size inb_S1x256x1024_S1x256x256_0_0_512)))
    (weighed (scores (extractStridedSlice S512x256 ![0, 768] (k0_pay3 x5 x0 x1 x2 x6 x7) slices_S512x1024_o0_768_S512x256) (View.ld x3 (Rect.unit (s := S1x256x1024) ![0, 0, 768] S1x256x256.size inb_S1x256x1024_S1x256x256_0_0_768)))
      (View.ld x4 (Rect.unit (s := S1x256x1024) ![0, 0, 768] S1x256x256.size inb_S1x256x1024_S1x256x256_0_0_768)))
    x8

/-- The output block. -/
def outY (x2 : FVec F S512x1024 .f32) (hn : FVec F S512x1024 .bf16) (x10 : Vec F S1024x5632 .bf16) (x11 : Vec F S3x5632 .f32) (x12 : Vec F S1x5632 .f32) (x13 : Vec F S2816x1024 .bf16) (x14 : Vec F S1x1024 .f32) (c : Vec F S8x5632 .f32) : FVec F S512x1024 .f32 :=
  k0_pay1 (k0_pay214 x14) (k0_pay215 x2 (acts hn x10 x11 x12 c) (k0_pay213 x13) (constant S512x1024 .f32 0x00000000#32))

/-- The output block of a sequence's first point: nothing is carried. -/
theorem out_A (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x5632 .f32) (harg12 : arg12.IsWhole) (arg13 : Memref sig .tc .vmem S1x5632 .f32) (harg13 : arg13.IsWhole) (arg14 : Memref sig .tc .vmem S2816x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S1x2x5632 .f32) (harg17 : arg17.IsWhole) (arg18 : Memref sig .tc .vmem S8x5632 .f32) (harg18 : arg18.IsWhole) (hc0 : cond0_0 i)
    (x0 : Vec F S512x1024 .f32) (x1 : Vec F S512x512 .bf16) (x2 : Vec F S512x512 .bf16) (x3 : Vec F S1x256x1024 .f32) (x4 : Vec F S1x256x1024 .f32) (x5 : Vec F S1024x1024 .bf16) (x6 : Vec F S1x1024 .f32) (x7 : Vec F S1024x1024 .bf16) (x8 : Vec F S1024x1024 .bf16) (x9 : Vec F S1x1024 .f32) (x10 : Vec F S1024x5632 .bf16) (x11 : Vec F S3x5632 .f32) (x12 : Vec F S1x5632 .f32) (x13 : Vec F S2816x1024 .bf16) (x14 : Vec F S1x1024 .f32) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 x14
      = outY (crossed x0 x1 x2 x3 x4 x5 x6 x7 x8) (k0_pay11 (crossed x0 x1 x2 x3 x4 x5 x6 x7 x8) x9) x10 x11 x12 x13 x14 k0_pay10 := by
  frame_open
  simp (disch := decide) only [↓ View.readCov_skip, ↓ View.readCov_cons_toLoadRect, ↓ View.readCov_fill]
  frame_out
  rfl

/-- The output block of any other point: the carried rows are the scratch's. -/
theorem out_B (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x5632 .f32) (harg12 : arg12.IsWhole) (arg13 : Memref sig .tc .vmem S1x5632 .f32) (harg13 : arg13.IsWhole) (arg14 : Memref sig .tc .vmem S2816x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S1x2x5632 .f32) (harg17 : arg17.IsWhole) (arg18 : Memref sig .tc .vmem S8x5632 .f32) (harg18 : arg18.IsWhole) (hc0 : ¬cond0_0 i)
    (x0 : Vec F S512x1024 .f32) (x1 : Vec F S512x512 .bf16) (x2 : Vec F S512x512 .bf16) (x3 : Vec F S1x256x1024 .f32) (x4 : Vec F S1x256x1024 .f32) (x5 : Vec F S1024x1024 .bf16) (x6 : Vec F S1x1024 .f32) (x7 : Vec F S1024x1024 .bf16) (x8 : Vec F S1024x1024 .bf16) (x9 : Vec F S1x1024 .f32) (x10 : Vec F S1024x5632 .bf16) (x11 : Vec F S3x5632 .f32) (x12 : Vec F S1x5632 .f32) (x13 : Vec F S2816x1024 .bf16) (x14 : Vec F S1x1024 .f32) (xs0 : Vec F S8x5632 .f32) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 x14 xs0
      = outY (crossed x0 x1 x2 x3 x4 x5 x6 x7 x8) (k0_pay11 (crossed x0 x1 x2 x3 x4 x5 x6 x7 x8) x9) x10 x11 x12 x13 x14 xs0 := by
  frame_out
  rfl

/-- The last two rows of a column block, under a unit axis. -/
def last2 (u : FVec F S512x256 .f32) : FVec F S1x2x256 .f32 :=
  shapeCast S1x2x256 (extractStridedSlice S2x256 ![510, 0] u slices_S512x256_o510_0_S2x256) shapeCasts_S2x256_S1x2x256

/-- The last eight rows of a column block. -/
def last8 (u : FVec F S512x256 .f32) : FVec F S8x256 .f32 :=
  shapeCast S8x256 (extractStridedSlice S8x256 ![504, 0] u slices_S512x256_o504_0_S8x256) shapeCasts_S8x256_S8x256

/-- The stores of the last two rows' up-projections, one for each column block, the last first. -/
def tails2 (hn : FVec F S512x1024 .bf16) (w : Vec F S1024x5632 .bf16) : List (View.Piece (Elt F) S1x2x5632 .f32) :=
  [⟨Rect.unit ![0, 0, 5376] ![1, 2, 256] inb_S1x2x5632_S1x2x256_0_0_5376, last2 (lifted hn w 5376 (by omega))⟩,
    ⟨Rect.unit ![0, 0, 2560] ![1, 2, 256] inb_S1x2x5632_S1x2x256_0_0_2560, last2 (lifted hn w 2560 (by omega))⟩,
    ⟨Rect.unit ![0, 0, 5120] ![1, 2, 256] inb_S1x2x5632_S1x2x256_0_0_5120, last2 (lifted hn w 5120 (by omega))⟩,
    ⟨Rect.unit ![0, 0, 2304] ![1, 2, 256] inb_S1x2x5632_S1x2x256_0_0_2304, last2 (lifted hn w 2304 (by omega))⟩,
    ⟨Rect.unit ![0, 0, 4864] ![1, 2, 256] inb_S1x2x5632_S1x2x256_0_0_4864, last2 (lifted hn w 4864 (by omega))⟩,
    ⟨Rect.unit ![0, 0, 2048] ![1, 2, 256] inb_S1x2x5632_S1x2x256_0_0_2048, last2 (lifted hn w 2048 (by omega))⟩,
    ⟨Rect.unit ![0, 0, 4608] ![1, 2, 256] inb_S1x2x5632_S1x2x256_0_0_4608, last2 (lifted hn w 4608 (by omega))⟩,
    ⟨Rect.unit ![0, 0, 1792] ![1, 2, 256] inb_S1x2x5632_S1x2x256_0_0_1792, last2 (lifted hn w 1792 (by omega))⟩,
    ⟨Rect.unit ![0, 0, 4352] ![1, 2, 256] inb_S1x2x5632_S1x2x256_0_0_4352, last2 (lifted hn w 4352 (by omega))⟩,
    ⟨Rect.unit ![0, 0, 1536] ![1, 2, 256] inb_S1x2x5632_S1x2x256_0_0_1536, last2 (lifted hn w 1536 (by omega))⟩,
    ⟨Rect.unit ![0, 0, 4096] ![1, 2, 256] inb_S1x2x5632_S1x2x256_0_0_4096, last2 (lifted hn w 4096 (by omega))⟩,
    ⟨Rect.unit ![0, 0, 1280] ![1, 2, 256] inb_S1x2x5632_S1x2x256_0_0_1280, last2 (lifted hn w 1280 (by omega))⟩,
    ⟨Rect.unit ![0, 0, 3840] ![1, 2, 256] inb_S1x2x5632_S1x2x256_0_0_3840, last2 (lifted hn w 3840 (by omega))⟩,
    ⟨Rect.unit ![0, 0, 1024] ![1, 2, 256] inb_S1x2x5632_S1x2x256_0_0_1024, last2 (lifted hn w 1024 (by omega))⟩,
    ⟨Rect.unit ![0, 0, 3584] ![1, 2, 256] inb_S1x2x5632_S1x2x256_0_0_3584, last2 (lifted hn w 3584 (by omega))⟩,
    ⟨Rect.unit ![0, 0, 768] ![1, 2, 256] inb_S1x2x5632_S1x2x256_0_0_768, last2 (lifted hn w 768 (by omega))⟩,
    ⟨Rect.unit ![0, 0, 3328] ![1, 2, 256] inb_S1x2x5632_S1x2x256_0_0_3328, last2 (lifted hn w 3328 (by omega))⟩,
    ⟨Rect.unit ![0, 0, 512] ![1, 2, 256] inb_S1x2x5632_S1x2x256_0_0_512, last2 (lifted hn w 512 (by omega))⟩,
    ⟨Rect.unit ![0, 0, 3072] ![1, 2, 256] inb_S1x2x5632_S1x2x256_0_0_3072, last2 (lifted hn w 3072 (by omega))⟩,
    ⟨Rect.unit ![0, 0, 256] ![1, 2, 256] inb_S1x2x5632_S1x2x256_0_0_256, last2 (lifted hn w 256 (by omega))⟩,
    ⟨Rect.unit ![0, 0, 2816] ![1, 2, 256] inb_S1x2x5632_S1x2x256_0_0_2816, last2 (lifted hn w 2816 (by omega))⟩,
    ⟨Rect.unit ![0, 0, 0] ![1, 2, 256] inb_S1x2x5632_S1x2x256_0_0_0, last2 (lifted hn w 0 (by omega))⟩]

/-- The stores of the last eight rows' up-projections into the carried rows, the last first. -/
def tails8 (hn : FVec F S512x1024 .bf16) (w : Vec F S1024x5632 .bf16) : List (View.Piece (Elt F) S8x5632 .f32) :=
  [⟨Rect.unit ![0, 5376] ![8, 256] inb_S8x5632_S8x256_0_5376, last8 (lifted hn w 5376 (by omega))⟩,
    ⟨Rect.unit ![0, 2560] ![8, 256] inb_S8x5632_S8x256_0_2560, last8 (lifted hn w 2560 (by omega))⟩,
    ⟨Rect.unit ![0, 5120] ![8, 256] inb_S8x5632_S8x256_0_5120, last8 (lifted hn w 5120 (by omega))⟩,
    ⟨Rect.unit ![0, 2304] ![8, 256] inb_S8x5632_S8x256_0_2304, last8 (lifted hn w 2304 (by omega))⟩,
    ⟨Rect.unit ![0, 4864] ![8, 256] inb_S8x5632_S8x256_0_4864, last8 (lifted hn w 4864 (by omega))⟩,
    ⟨Rect.unit ![0, 2048] ![8, 256] inb_S8x5632_S8x256_0_2048, last8 (lifted hn w 2048 (by omega))⟩,
    ⟨Rect.unit ![0, 4608] ![8, 256] inb_S8x5632_S8x256_0_4608, last8 (lifted hn w 4608 (by omega))⟩,
    ⟨Rect.unit ![0, 1792] ![8, 256] inb_S8x5632_S8x256_0_1792, last8 (lifted hn w 1792 (by omega))⟩,
    ⟨Rect.unit ![0, 4352] ![8, 256] inb_S8x5632_S8x256_0_4352, last8 (lifted hn w 4352 (by omega))⟩,
    ⟨Rect.unit ![0, 1536] ![8, 256] inb_S8x5632_S8x256_0_1536, last8 (lifted hn w 1536 (by omega))⟩,
    ⟨Rect.unit ![0, 4096] ![8, 256] inb_S8x5632_S8x256_0_4096, last8 (lifted hn w 4096 (by omega))⟩,
    ⟨Rect.unit ![0, 1280] ![8, 256] inb_S8x5632_S8x256_0_1280, last8 (lifted hn w 1280 (by omega))⟩,
    ⟨Rect.unit ![0, 3840] ![8, 256] inb_S8x5632_S8x256_0_3840, last8 (lifted hn w 3840 (by omega))⟩,
    ⟨Rect.unit ![0, 1024] ![8, 256] inb_S8x5632_S8x256_0_1024, last8 (lifted hn w 1024 (by omega))⟩,
    ⟨Rect.unit ![0, 3584] ![8, 256] inb_S8x5632_S8x256_0_3584, last8 (lifted hn w 3584 (by omega))⟩,
    ⟨Rect.unit ![0, 768] ![8, 256] inb_S8x5632_S8x256_0_768, last8 (lifted hn w 768 (by omega))⟩,
    ⟨Rect.unit ![0, 3328] ![8, 256] inb_S8x5632_S8x256_0_3328, last8 (lifted hn w 3328 (by omega))⟩,
    ⟨Rect.unit ![0, 512] ![8, 256] inb_S8x5632_S8x256_0_512, last8 (lifted hn w 512 (by omega))⟩,
    ⟨Rect.unit ![0, 3072] ![8, 256] inb_S8x5632_S8x256_0_3072, last8 (lifted hn w 3072 (by omega))⟩,
    ⟨Rect.unit ![0, 256] ![8, 256] inb_S8x5632_S8x256_0_256, last8 (lifted hn w 256 (by omega))⟩,
    ⟨Rect.unit ![0, 2816] ![8, 256] inb_S8x5632_S8x256_0_2816, last8 (lifted hn w 2816 (by omega))⟩,
    ⟨Rect.unit ![0, 0] ![8, 256] inb_S8x5632_S8x256_0_0, last8 (lifted hn w 0 (by omega))⟩]

/-- The second output's block at a sequence's first point. -/
theorem tails2_A (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x5632 .f32) (harg12 : arg12.IsWhole) (arg13 : Memref sig .tc .vmem S1x5632 .f32) (harg13 : arg13.IsWhole) (arg14 : Memref sig .tc .vmem S2816x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S1x2x5632 .f32) (harg17 : arg17.IsWhole) (arg18 : Memref sig .tc .vmem S8x5632 .f32) (harg18 : arg18.IsWhole) (hc0 : cond0_0 i)
    (x0 : Vec F S512x1024 .f32) (x1 : Vec F S512x512 .bf16) (x2 : Vec F S512x512 .bf16) (x3 : Vec F S1x256x1024 .f32) (x4 : Vec F S1x256x1024 .f32) (x5 : Vec F S1024x1024 .bf16) (x6 : Vec F S1x1024 .f32) (x7 : Vec F S1024x1024 .bf16) (x8 : Vec F S1024x1024 .bf16) (x9 : Vec F S1x1024 .f32) (x10 : Vec F S1024x5632 .bf16) (x11 : Vec F S3x5632 .f32) (x12 : Vec F S1x5632 .f32) (x13 : Vec F S2816x1024 .bf16) (x14 : Vec F S1x1024 .f32) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 x14 = View.canon (tails2 (k0_pay11 (crossed x0 x1 x2 x3 x4 x5 x6 x7 x8) x9) x10) := by
  frame_out
  rfl

/-- The carried rows after a sequence's first point: the stores over the cleared buffer. -/
theorem tails8_A (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x5632 .f32) (harg12 : arg12.IsWhole) (arg13 : Memref sig .tc .vmem S1x5632 .f32) (harg13 : arg13.IsWhole) (arg14 : Memref sig .tc .vmem S2816x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S1x2x5632 .f32) (harg17 : arg17.IsWhole) (arg18 : Memref sig .tc .vmem S8x5632 .f32) (harg18 : arg18.IsWhole) (hc0 : cond0_0 i)
    (x0 : Vec F S512x1024 .f32) (x1 : Vec F S512x512 .bf16) (x2 : Vec F S512x512 .bf16) (x3 : Vec F S1x256x1024 .f32) (x4 : Vec F S1x256x1024 .f32) (x5 : Vec F S1024x1024 .bf16) (x6 : Vec F S1x1024 .f32) (x7 : Vec F S1024x1024 .bf16) (x8 : Vec F S1024x1024 .bf16) (x9 : Vec F S1x1024 .f32) (x10 : Vec F S1024x5632 .bf16) (x11 : Vec F S3x5632 .f32) (x12 : Vec F S1x5632 .f32) (x13 : Vec F S2816x1024 .bf16) (x14 : Vec F S1x1024 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 x14 = View.canon (tails8 (k0_pay11 (crossed x0 x1 x2 x3 x4 x5 x6 x7 x8) x9) x10 ++ [⟨Rect.unit ![0, 0] S8x5632.size inb_S8x5632_S8x5632_0_0, k0_pay10⟩]) := by
  frame_out
  rfl

/-- The second output's block at any other point. -/
theorem tails2_B (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x5632 .f32) (harg12 : arg12.IsWhole) (arg13 : Memref sig .tc .vmem S1x5632 .f32) (harg13 : arg13.IsWhole) (arg14 : Memref sig .tc .vmem S2816x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S1x2x5632 .f32) (harg17 : arg17.IsWhole) (arg18 : Memref sig .tc .vmem S8x5632 .f32) (harg18 : arg18.IsWhole) (hc0 : ¬cond0_0 i)
    (x0 : Vec F S512x1024 .f32) (x1 : Vec F S512x512 .bf16) (x2 : Vec F S512x512 .bf16) (x3 : Vec F S1x256x1024 .f32) (x4 : Vec F S1x256x1024 .f32) (x5 : Vec F S1024x1024 .bf16) (x6 : Vec F S1x1024 .f32) (x7 : Vec F S1024x1024 .bf16) (x8 : Vec F S1024x1024 .bf16) (x9 : Vec F S1x1024 .f32) (x10 : Vec F S1024x5632 .bf16) (x11 : Vec F S3x5632 .f32) (x12 : Vec F S1x5632 .f32) (x13 : Vec F S2816x1024 .bf16) (x14 : Vec F S1x1024 .f32) (xs0 : Vec F S8x5632 .f32) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 x14 xs0 = View.canon (tails2 (k0_pay11 (crossed x0 x1 x2 x3 x4 x5 x6 x7 x8) x9) x10) := by
  frame_out
  rfl

/-- The carried rows after any other point. -/
theorem tails8_B (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x5632 .f32) (harg12 : arg12.IsWhole) (arg13 : Memref sig .tc .vmem S1x5632 .f32) (harg13 : arg13.IsWhole) (arg14 : Memref sig .tc .vmem S2816x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S1x2x5632 .f32) (harg17 : arg17.IsWhole) (arg18 : Memref sig .tc .vmem S8x5632 .f32) (harg18 : arg18.IsWhole) (hc0 : ¬cond0_0 i)
    (x0 : Vec F S512x1024 .f32) (x1 : Vec F S512x512 .bf16) (x2 : Vec F S512x512 .bf16) (x3 : Vec F S1x256x1024 .f32) (x4 : Vec F S1x256x1024 .f32) (x5 : Vec F S1024x1024 .bf16) (x6 : Vec F S1x1024 .f32) (x7 : Vec F S1024x1024 .bf16) (x8 : Vec F S1024x1024 .bf16) (x9 : Vec F S1x1024 .f32) (x10 : Vec F S1024x5632 .bf16) (x11 : Vec F S3x5632 .f32) (x12 : Vec F S1x5632 .f32) (x13 : Vec F S2816x1024 .bf16) (x14 : Vec F S1x1024 .f32) (xs0 : Vec F S8x5632 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 x14 xs0 = View.canon (tails8 (k0_pay11 (crossed x0 x1 x2 x3 x4 x5 x6 x7 x8) x9) x10 ++ []) := by
  frame_out
  rfl

end Cert.Layer.Blk
-- ==== Proof.Scalars.lean ====
/-
  Facts about single extended reals that the proofs of this directory share: the constants the programs write as
  binary32 words, the logistic function written through `tanh`, and how a positive real factor passes through a sum.
-/
module

public import Idealize.ShloMosaic.Lib.Pointwise

@[expose] public section

noncomputable section

namespace Cert.Layer

open Idealize.ShloMosaic

/-- The word `0x3F000000` is one half. -/
theorem half_word : Ideal.ofBits .f32 0x3F000000#32 = ((1 / 2 : ℝ) : EReal) := by
  simp [Ideal.ofBits, Ideal.ieee]
  rw [← EReal.coe_mul]
  norm_num

/-- The word `0x3D800000` is one sixteenth, the reciprocal of the square root of the head width 256. -/
theorem sixteenth_word : Ideal.ofBits .f32 0x3D800000#32 = ((1 / 16 : ℝ) : EReal) := by
  simp [Ideal.ofBits, Ideal.ieee]
  rw [← EReal.coe_mul]
  norm_num

/-- `1/2 + 1/2 · tanh (x/2)` is the logistic function, at the infinities too. -/
theorem half_tanh (x : EReal) :
    Ideal.ofBits .f32 0x3F000000#32 + Ideal.ofBits .f32 0x3F000000#32 * Ideal.tanh (Ideal.ofBits .f32 0x3F000000#32 * x)
      = Ideal.div 1 (1 + Ideal.exp (-x)) := by
  rw [half_word]
  induction x using EReal.rec with
  | bot =>
    rw [EReal.coe_mul_bot_of_pos (by norm_num)]
    simp only [Ideal.tanh_bot, EReal.neg_bot]
    show _ = Ideal.div 1 (1 + ⊤)
    rw [EReal.add_top_of_ne_bot (by decide)]
    simp only [Ideal.div]
    simp
    norm_cast
    norm_num
  | top =>
    rw [EReal.coe_mul_top_of_pos (by norm_num)]
    simp only [Ideal.tanh_top, EReal.neg_top]
    show _ = Ideal.div 1 (1 + 0)
    simp only [Ideal.div]
    simp
    norm_cast
    norm_num
  | coe r =>
    rw [← EReal.coe_mul, Ideal.tanh_coe, ← EReal.coe_neg]
    show _ = Ideal.div 1 (1 + ((Real.exp (-r) : ℝ) : EReal))
    have hpos : (0 : ℝ) < 1 + Real.exp (-r) := by positivity
    have h1 : (1 : EReal) + ((Real.exp (-r) : ℝ) : EReal) = ((1 + Real.exp (-r) : ℝ) : EReal) := by norm_cast
    rw [h1]
    simp only [Ideal.div]
    rw [if_neg (by exact_mod_cast hpos.ne'), one_mul, ← EReal.coe_inv, ← EReal.coe_mul, ← EReal.coe_add]
    congr 1
    rw [Real.tanh_eq_sinh_div_cosh, Real.sinh_eq, Real.cosh_eq]
    have e1 : Real.exp (-r) = Real.exp (-(1 / 2 * r)) * Real.exp (-(1 / 2 * r)) := by
      rw [← Real.exp_add]; congr 1; ring
    have e2 : Real.exp (1 / 2 * r) * Real.exp (-(1 / 2 * r)) = 1 := by
      rw [← Real.exp_add]; simp
    have p1 := Real.exp_pos (1 / 2 * r)
    have p2 := Real.exp_pos (-(1 / 2 * r))
    rw [e1]
    generalize Real.exp (1 / 2 * r) = a at e2 p1 ⊢
    generalize Real.exp (-(1 / 2 * r)) = b at e2 p2 ⊢
    have p3 : (0 : ℝ) < 1 + b * b := by positivity
    field_simp
    linear_combination 2 * b * e2

/-- A positive real factor distributes over a sum of two extended reals. -/
theorem pos_mul_add (c : ℝ) (hc : 0 < c) (a b : EReal) : (c : EReal) * (a + b) = c * a + c * b := by
  induction a using EReal.rec with
  | bot => simp [EReal.coe_mul_bot_of_pos hc]
  | top =>
    induction b using EReal.rec with
    | bot => simp [EReal.coe_mul_bot_of_pos hc]
    | top => simp [EReal.coe_mul_top_of_pos hc]
    | coe b =>
      rw [EReal.top_add_coe, EReal.coe_mul_top_of_pos hc, ← EReal.coe_mul, EReal.top_add_coe]
  | coe a =>
    induction b using EReal.rec with
    | bot => simp [EReal.coe_mul_bot_of_pos hc]
    | top =>
      rw [EReal.coe_add_top, EReal.coe_mul_top_of_pos hc, ← EReal.coe_mul, EReal.coe_add_top]
    | coe b => norm_cast; ring

/-- A positive real factor distributes over a finite sum. -/
theorem pos_mul_sum {ι : Type} (c : ℝ) (hc : 0 < c) (s : Finset ι) (f : ι → EReal) :
    (c : EReal) * ∑ k ∈ s, f k = ∑ k ∈ s, (c : EReal) * f k := by
  classical
  induction s using Finset.induction_on with
  | empty => simp
  | insert a s ha ih => rw [Finset.sum_insert ha, Finset.sum_insert ha, pos_mul_add c hc, ih]

/-- Scaling each left factor by `1/16` before a sum of products is scaling the sum. -/
theorem sum_scaled (n : ℕ) (f g : Fin n → EReal) :
    ∑ k, (f k * Ideal.ofBits .f32 0x3D800000#32) * g k = (∑ k, f k * g k) * Ideal.ofBits .f32 0x3D800000#32 := by
  rw [sixteenth_word, mul_comm (∑ k, f k * g k), pos_mul_sum _ (by norm_num)]
  refine Finset.sum_congr rfl fun k _ => ?_
  rw [mul_comm (f k), mul_assoc]

/-- The largest of a row and the value its fold starts from: the start is in the fold already. -/
theorem max_start {n : ℕ} (w : EReal) (f : Fin n → EReal) :
    max w (Finset.fold max w f Finset.univ) = Finset.fold max w f Finset.univ :=
  max_eq_right ((Finset.le_fold_max w).mpr (Or.inl le_rfl))

end Cert.Layer
-- ==== Proof.Rows.lean ====
/-
  What the second half of the layer computes, row by row over the extended reals: the mixers' output projection, the
  cross attention on the sequence's memory, the convolutional feed-forward network and the last normalization. Every
  row needs its own row of the inputs, the memory of its sequence, and the up-projections of the two rows before it
  (zero before the sequence begins).
-/
module

public import proofs.«01_k».proof.Proof.Scalars

@[expose] public section

noncomputable section

namespace Cert.Layer

open Idealize.ShloMosaic

/-- The root-mean-square normalization of one row of width 1024, scaled by `g`. -/
def rms (x g : Fin 1024 → EReal) (d : Fin 1024) : EReal :=
  x d * Ideal.rsqrt (Ideal.div (∑ k, x k * x k) (Ideal.ofBits .f32 0x44800000#32) + Ideal.ofBits .f32 0x358637BD#32) * g d

/-- The weights of the layer's second half. -/
structure Weights where
  /-- the mixers' output projection -/
  out : Fin 1024 → Fin 1024 → EReal
  /-- the scale of the norm before the cross attention -/
  gxa : Fin 1024 → EReal
  /-- the query projection -/
  wq : Fin 1024 → Fin 1024 → EReal
  /-- the output projection of the cross attention -/
  wo : Fin 1024 → Fin 1024 → EReal
  /-- the scale of the norm before the feed-forward network -/
  gff : Fin 1024 → EReal
  /-- the up-projection (gates, then values) -/
  up : Fin 1024 → Fin 5632 → EReal
  /-- the three taps of the convolution -/
  cw : Fin 3 → Fin 5632 → EReal
  /-- the convolution's bias -/
  cb : Fin 5632 → EReal
  /-- the down-projection -/
  down : Fin 2816 → Fin 1024 → EReal
  /-- the scale of the last norm -/
  gf : Fin 1024 → EReal

variable (W : Weights)

/-- The residual stream after the mixers. -/
def Weights.mixed (x : Fin 1024 → EReal) (ys yr : Fin 512 → EReal) (d : Fin 1024) : EReal :=
  x d + (∑ k, ys k * W.out ⟨k.val, by omega⟩ d + ∑ k, yr k * W.out ⟨512 + k.val, by omega⟩ d)

/-- The query row. -/
def Weights.query (x1 : Fin 1024 → EReal) (e : Fin 1024) : EReal := ∑ k, rms x1 W.gxa k * W.wq k e

/-- The score of memory entry `m` in head `h`: the heads are 256 wide, the scale is one sixteenth. -/
def score (q : Fin 1024 → EReal) (K : Fin 256 → Fin 1024 → EReal) (h : Fin 4) (m : Fin 256) : EReal :=
  (∑ e : Fin 256, q ⟨h.val * 256 + e.val, by omega⟩ * K m ⟨h.val * 256 + e.val, by omega⟩) * Ideal.ofBits .f32 0x3D800000#32

/-- The exponential of a score's distance to the largest score of its row. -/
def expo (s : Fin 256 → EReal) (m : Fin 256) : EReal :=
  Ideal.exp (s m - Finset.fold max (Ideal.ofBits .f32 0xFF800000#32) s Finset.univ)

/-- The attention's mean of the memory's values, at column `d` (which lies in head `d / 256`). -/
def attended (q : Fin 1024 → EReal) (K V : Fin 256 → Fin 1024 → EReal) (d : Fin 1024) : EReal :=
  ∑ m : Fin 256, V m d * Ideal.div (expo (score q K ⟨d.val / 256, by omega⟩) m)
    (∑ n, expo (score q K ⟨d.val / 256, by omega⟩) n)

/-- The residual stream after the cross attention. -/
def Weights.crossed (x1 : Fin 1024 → EReal) (K V : Fin 256 → Fin 1024 → EReal) (d : Fin 1024) : EReal :=
  x1 d + ∑ e, attended (W.query x1) K V e * W.wo e d

/-- The up-projection of a row. -/
def Weights.lifted (x2 : Fin 1024 → EReal) (c : Fin 5632) : EReal := ∑ k, rms x2 W.gff k * W.up k c

/-- The convolution at one column, from the up-projections of the row two before, one before, and the row. -/
def Weights.conv (u2 u1 u0 : EReal) (c : Fin 5632) : EReal :=
  W.cb c + (u2 * W.cw 0 c + u1 * W.cw 1 c + u0 * W.cw 2 c)

/-- The gated activation at column `j`: gate column `j`, value column `2816 + j`. -/
def gated (g v : EReal) : EReal := g * Ideal.div 1 (1 + Ideal.exp (-g)) * v

/-- The activation row, from the three rows of up-projections. -/
def Weights.act (u2 u1 u0 : Fin 5632 → EReal) (j : Fin 2816) : EReal :=
  gated (W.conv (u2 ⟨j.val, by omega⟩) (u1 ⟨j.val, by omega⟩) (u0 ⟨j.val, by omega⟩) ⟨j.val, by omega⟩)
    (W.conv (u2 ⟨2816 + j.val, by omega⟩) (u1 ⟨2816 + j.val, by omega⟩) (u0 ⟨2816 + j.val, by omega⟩) ⟨2816 + j.val, by omega⟩)

/-- The layer's output row. -/
def Weights.final (x2 : Fin 1024 → EReal) (a : Fin 2816 → EReal) : Fin 1024 → EReal :=
  rms (fun d => x2 d + ∑ j, a j * W.down j d) W.gf

/-- The whole input of the second half: 16384 rows, eight sequences of 2048 each, with their memories. -/
structure Inputs where
  /-- the residual stream -/
  x : Fin 16384 → Fin 1024 → EReal
  /-- the first mixer's output -/
  ys : Fin 16384 → Fin 512 → EReal
  /-- the second mixer's output -/
  yr : Fin 16384 → Fin 512 → EReal
  /-- the memories' keys -/
  keys : Fin 8 → Fin 256 → Fin 1024 → EReal
  /-- the memories' values -/
  vals : Fin 8 → Fin 256 → Fin 1024 → EReal
  /-- the weights -/
  w : Weights

variable (I : Inputs)

/-- Row `n` of the residual stream after the mixers. -/
def Inputs.x1 (n : Fin 16384) : Fin 1024 → EReal := I.w.mixed (I.x n) (I.ys n) (I.yr n)

/-- Row `n` of the residual stream after the cross attention. -/
def Inputs.x2 (n : Fin 16384) : Fin 1024 → EReal :=
  I.w.crossed (I.x1 n) (I.keys ⟨n.val / 2048, by omega⟩) (I.vals ⟨n.val / 2048, by omega⟩)

/-- Row `n` of the up-projections. -/
def Inputs.u (n : Fin 16384) : Fin 5632 → EReal := I.w.lifted (I.x2 n)

/-- The up-projections `k` rows before row `n`, zero where that is before the sequence of row `n`. -/
def Inputs.back (k : ℕ) (n : Fin 16384) (c : Fin 5632) : EReal :=
  if n.val % 2048 < k then 0 else I.u ⟨n.val - k, by omega⟩ c

/-- Row `n` of the layer's output. -/
def Inputs.y (n : Fin 16384) : Fin 1024 → EReal :=
  I.w.final (I.x2 n) (I.w.act (I.back 2 n) (I.back 1 n) (I.u n))

end Cert.Layer
-- ==== Proof.BlockRows.lean ====
/-
  One grid point's residual stream after the cross attention and its up-projections, at an index: the rows that the
  plain description of the layer gives.
-/
module

public import proofs.«01_k».proof.Proof.Block
public import proofs.«01_k».proof.Proof.Rows
public import Idealize.ShloMosaic.Lib.Tactic
public import Idealize.ShloMosaic.Lib.Pipeline.ValueKit
public import Idealize.ShloMosaic.Lib.Pipeline.ReadBack

@[expose] public section

set_option maxRecDepth 16384

noncomputable section

namespace Cert.Layer.Blk

open Cert.KernelIdeal Cert.KernelIdeal.Gen Cert.KernelIdeal.Value Idealize.ShloMosaic Idealize.ShloMosaic.TcCoe Idealize.SL.Sem

/-- The mixers' projection of a block, at an index. -/
theorem mixed_apply (x5 : Vec Ideal S1024x1024 .bf16) (x0 : Vec Ideal S512x1024 .f32) (x1 x2 : Vec Ideal S512x512 .bf16) (r : Fin 512) (d : Fin 1024) :
    k0_pay2 x5 x0 x1 x2 (ix2 r d) = x0 (ix2 r d) + (∑ k, x1 (ix2 r k) * x5 (ix2 (⟨k.val, by omega⟩ : Fin 1024) d)
      + ∑ k, x2 (ix2 r k) * x5 (ix2 (⟨512 + k.val, by omega⟩ : Fin 1024) d)) := by
  pointwise [k0_pay2]

/-- The norm of a block's rows, before a projection. -/
def normed (x : FVec Ideal S512x1024 .f32) (g : Vec Ideal S1x1024 .f32) (r : Fin 512) : Fin 1024 → EReal :=
  rms (fun k => x (ix2 r k)) (fun k => g (ix2 0 k))

/-- The norm before the feed-forward network, at an index. -/
theorem hn_apply (x : FVec Ideal S512x1024 .f32) (g : Vec Ideal S1x1024 .f32) (r : Fin 512) (d : Fin 1024) :
    k0_pay11 x g (ix2 r d) = normed x g r d := by
  unfold normed rms
  pointwise [k0_pay11]

/-- The scaled query of a block, at an index. -/
theorem query_apply (x5 : Vec Ideal S1024x1024 .bf16) (x0 : Vec Ideal S512x1024 .f32) (x1 x2 : Vec Ideal S512x512 .bf16)
    (x6 : Vec Ideal S1x1024 .f32) (x7 : Vec Ideal S1024x1024 .bf16) (r : Fin 512) (e : Fin 1024) :
    k0_pay3 x5 x0 x1 x2 x6 x7 (ix2 r e)
      = (∑ k, normed (k0_pay2 x5 x0 x1 x2) x6 r k * x7 (ix2 k e)) * Ideal.ofBits .f32 0x3D800000#32 := by
  unfold normed rms k0_pay3
  generalize k0_pay2 x5 x0 x1 x2 = x
  pointwise

/-- A head's scores, at an index. -/
theorem scores_apply (q : FVec Ideal S512x256 .bf16) (k : Vec Ideal S1x256x256 .f32) (r : Fin 512) (m : Fin 256) :
    scores q k (ix2 r m) = ∑ e, q (ix2 r e) * k (ix3 0 m e) := by
  unfold scores
  pointwise

/-- A head's mean of the values, at an index. -/
theorem weighed_apply (s : FVec Ideal S512x256 .f32) (v : Vec Ideal S1x256x256 .f32) (r : Fin 512) (d : Fin 256) :
    weighed s v (ix2 r d) = ∑ m, v (ix3 0 m d) * Ideal.div (expo (fun k => s (ix2 r k)) m) (∑ n, expo (fun k => s (ix2 r k)) n) := by
  unfold weighed expo
  pointwise
  exact Finset.sum_congr rfl fun m _ => mul_comm _ _

/-- The down-projection and the last norm, at an index. -/
theorem last_apply (x2 : FVec Ideal S512x1024 .f32) (a : FVec Ideal S512x2816 .bf16) (x13 : Vec Ideal S2816x1024 .bf16) (x14 : Vec Ideal S1x1024 .f32) (r : Fin 512) (d : Fin 1024) :
    k0_pay1 (k0_pay214 x14) (k0_pay215 x2 a (k0_pay213 x13) (constant S512x1024 .f32 0x00000000#32)) (ix2 r d)
      = rms (fun k => x2 (ix2 r k) + ∑ j, a (ix2 r j) * x13 (ix2 j k)) (fun k => x14 (ix2 0 k)) d := by
  unfold rms
  pointwise [k0_pay1, k0_pay214, k0_pay215, k0_pay213]

/-- The 256 columns from `o` on of a memory block. -/
theorem cols_apply (x : Vec Ideal S1x256x1024 .f32) (o : ℕ) (ho : o + 256 ≤ 1024) (inb) (k e : Fin 256) :
    (View.ld x (Rect.unit (s := S1x256x1024) ![0, 0, o] S1x256x256.size inb) : Vec Ideal S1x256x256 .f32) (ix3 0 k e)
      = x (ix3 0 k (⟨o + e.val, by omega⟩ : Fin 1024)) := by
  pointwise

/-- One head, at a column `d` of the whole width: the head's columns begin at `o`. -/
theorem head_apply (q : FVec Ideal S512x1024 .bf16) (x3 x4 : Vec Ideal S1x256x1024 .f32) (K V : Vec Ideal S1x256x256 .f32)
    (o : ℕ) (ho : o + 256 ≤ 1024) (hs)
    (hK : ∀ k e : Fin 256, K (ix3 0 k e) = x3 (ix3 0 k (⟨o + e.val, by omega⟩ : Fin 1024)))
    (hV : ∀ k e : Fin 256, V (ix3 0 k e) = x4 (ix3 0 k (⟨o + e.val, by omega⟩ : Fin 1024)))
    (r : Fin 512) (l : Fin 256) (d : Fin 1024) (hd : d.val = o + l.val) :
    weighed (scores (extractStridedSlice S512x256 ![0, o] q hs) K) V (ix2 r l)
      = ∑ m, x4 (ix3 0 m d) * Ideal.div
          (expo (fun k => ∑ e : Fin 256, q (ix2 r (⟨o + e.val, by omega⟩ : Fin 1024)) * x3 (ix3 0 k (⟨o + e.val, by omega⟩ : Fin 1024))) m)
          (∑ n, expo (fun k => ∑ e : Fin 256, q (ix2 r (⟨o + e.val, by omega⟩ : Fin 1024)) * x3 (ix3 0 k (⟨o + e.val, by omega⟩ : Fin 1024))) n) := by
  obtain ⟨dv, hdv⟩ := d
  obtain rfl : dv = o + l.val := hd
  rw [weighed_apply]
  have hq : ∀ e : Fin 256, extractStridedSlice S512x256 ![0, o] q hs (ix2 r e) = q (ix2 r (⟨o + e.val, by omega⟩ : Fin 1024)) := by
    intro e
    pointwise
  simp only [scores_apply, hq, hK, hV]

/-- The weights as the blocks hold them. -/
def wts (x5 : Vec Ideal S1024x1024 .bf16) (x6 : Vec Ideal S1x1024 .f32) (x7 x8 : Vec Ideal S1024x1024 .bf16) (x9 : Vec Ideal S1x1024 .f32)
    (x10 : Vec Ideal S1024x5632 .bf16) (x11 : Vec Ideal S3x5632 .f32) (x12 : Vec Ideal S1x5632 .f32) (x13 : Vec Ideal S2816x1024 .bf16)
    (x14 : Vec Ideal S1x1024 .f32) : Weights where
  out k d := x5 (ix2 k d)
  gxa k := x6 (ix2 0 k)
  wq k e := x7 (ix2 k e)
  wo k e := x8 (ix2 k e)
  gff k := x9 (ix2 0 k)
  up k c := x10 (ix2 k c)
  cw t c := x11 (ix2 t c)
  cb c := x12 (ix2 0 c)
  down j d := x13 (ix2 j d)
  gf k := x14 (ix2 0 k)

variable (x0 : Vec Ideal S512x1024 .f32) (x1 x2 : Vec Ideal S512x512 .bf16) (x3 x4 : Vec Ideal S1x256x1024 .f32)
  (x5 : Vec Ideal S1024x1024 .bf16) (x6 : Vec Ideal S1x1024 .f32) (x7 x8 : Vec Ideal S1024x1024 .bf16) (x9 : Vec Ideal S1x1024 .f32)
  (x10 : Vec Ideal S1024x5632 .bf16) (x11 : Vec Ideal S3x5632 .f32) (x12 : Vec Ideal S1x5632 .f32) (x13 : Vec Ideal S2816x1024 .bf16)
  (x14 : Vec Ideal S1x1024 .f32)

/-- A head with the scale taken out of the scores is the attention of the row, at the head's columns. -/
theorem head_eq (h : Fin 4) (hs) (inb) (r : Fin 512) (l : Fin 256) (d : Fin 1024) (hd : d.val = h.val * 256 + l.val) :
    weighed (scores (extractStridedSlice S512x256 ![0, h.val * 256] (k0_pay3 x5 x0 x1 x2 x6 x7) hs)
        (View.ld x3 (Rect.unit (s := S1x256x1024) ![0, 0, h.val * 256] S1x256x256.size inb)))
        (View.ld x4 (Rect.unit (s := S1x256x1024) ![0, 0, h.val * 256] S1x256x256.size inb)) (ix2 r l)
      = attended ((wts x5 x6 x7 x8 x9 x10 x11 x12 x13 x14).query ((wts x5 x6 x7 x8 x9 x10 x11 x12 x13 x14).mixed (fun k => x0 (ix2 r k)) (fun k => x1 (ix2 r k)) (fun k => x2 (ix2 r k))))
          (fun m e => x3 (ix3 0 m e)) (fun m e => x4 (ix3 0 m e)) d := by
  rw [head_apply _ x3 x4 _ _ (h.val * 256) (by omega) hs (cols_apply x3 (h.val * 256) (by omega) inb)
    (cols_apply x4 (h.val * 256) (by omega) inb) r l d hd]
  have hh : (⟨d.val / 256, by omega⟩ : Fin 4) = h := Fin.ext (by simp only; omega)
  have hm : normed (k0_pay2 x5 x0 x1 x2) x6 r
      = rms ((wts x5 x6 x7 x8 x9 x10 x11 x12 x13 x14).mixed (fun k => x0 (ix2 r k)) (fun k => x1 (ix2 r k)) (fun k => x2 (ix2 r k))) (wts x5 x6 x7 x8 x9 x10 x11 x12 x13 x14).gxa := by
    unfold normed
    exact congrArg (fun f => rms f (wts x5 x6 x7 x8 x9 x10 x11 x12 x13 x14).gxa) (funext fun k => mixed_apply x5 x0 x1 x2 r k)
  have hsc : (fun k : Fin 256 => ∑ e : Fin 256, k0_pay3 x5 x0 x1 x2 x6 x7 (ix2 r (⟨h.val * 256 + e.val, by omega⟩ : Fin 1024))
        * x3 (ix3 0 k (⟨h.val * 256 + e.val, by omega⟩ : Fin 1024)))
      = score ((wts x5 x6 x7 x8 x9 x10 x11 x12 x13 x14).query ((wts x5 x6 x7 x8 x9 x10 x11 x12 x13 x14).mixed (fun k => x0 (ix2 r k)) (fun k => x1 (ix2 r k)) (fun k => x2 (ix2 r k))))
          (fun m e => x3 (ix3 0 m e)) h := by
    funext k
    unfold score
    rw [← sum_scaled]
    refine Finset.sum_congr rfl fun e _ => ?_
    rw [query_apply, hm]
    rfl
  unfold attended
  rw [hsc, hh]

/-- The residual stream after the cross attention, at an index. -/
theorem crossed_apply (r : Fin 512) (d : Fin 1024) :
    crossed x0 x1 x2 x3 x4 x5 x6 x7 x8 (ix2 r d)
      = (wts x5 x6 x7 x8 x9 x10 x11 x12 x13 x14).crossed ((wts x5 x6 x7 x8 x9 x10 x11 x12 x13 x14).mixed (fun k => x0 (ix2 r k)) (fun k => x1 (ix2 r k)) (fun k => x2 (ix2 r k)))
          (fun m e => x3 (ix3 0 m e)) (fun m e => x4 (ix3 0 m e)) d := by
  have key : ∀ (x : FVec Ideal S512x1024 .f32) (h0 h1 h2 h3 : FVec Ideal S512x256 .f32) (w : Vec Ideal S1024x1024 .bf16)
      (a : Fin 1024 → EReal), (∀ (l : Fin 256) (e : Fin 1024), e.val = 0 * 256 + l.val → h0 (ix2 r l) = a e) →
      (∀ (l : Fin 256) (e : Fin 1024), e.val = 1 * 256 + l.val → h1 (ix2 r l) = a e) →
      (∀ (l : Fin 256) (e : Fin 1024), e.val = 2 * 256 + l.val → h2 (ix2 r l) = a e) →
      (∀ (l : Fin 256) (e : Fin 1024), e.val = 3 * 256 + l.val → h3 (ix2 r l) = a e) →
      joined x h0 h1 h2 h3 w (ix2 r d) = x (ix2 r d) + ∑ e, a e * w (ix2 e d) := by
    intro x h0 h1 h2 h3 w a e0 e1 e2 e3
    unfold joined
    pointwise
    refine congrArg _ (Finset.sum_congr rfl fun e _ => congrArg (· * w (ix2 e d)) ?_)
    split_ifs
    all_goals first
      | exact e0 _ e (by first | omega | (dsimp only; omega))
      | exact e1 _ e (by first | omega | (dsimp only; omega))
      | exact e2 _ e (by first | omega | (dsimp only; omega))
      | exact e3 _ e (by first | omega | (dsimp only; omega))
  unfold crossed
  refine (key _ _ _ _ _ _ _ (fun l e he => head_eq x0 x1 x2 x3 x4 x5 x6 x7 x8 x9 x10 x11 x12 x13 x14 0 _ _ r l e he)
    (fun l e he => head_eq x0 x1 x2 x3 x4 x5 x6 x7 x8 x9 x10 x11 x12 x13 x14 1 _ _ r l e he)
    (fun l e he => head_eq x0 x1 x2 x3 x4 x5 x6 x7 x8 x9 x10 x11 x12 x13 x14 2 _ _ r l e he)
    (fun l e he => head_eq x0 x1 x2 x3 x4 x5 x6 x7 x8 x9 x10 x11 x12 x13 x14 3 _ _ r l e he)).trans ?_
  rw [mixed_apply]
  rfl

/-- A row's norm before the feed-forward network, at an index. -/
theorem hn_eq (r : Fin 512) (c : Fin 5632) :
    ∑ e, k0_pay11 (crossed x0 x1 x2 x3 x4 x5 x6 x7 x8) x9 (ix2 r e) * x10 (ix2 e c)
      = (wts x5 x6 x7 x8 x9 x10 x11 x12 x13 x14).lifted ((wts x5 x6 x7 x8 x9 x10 x11 x12 x13 x14).crossed ((wts x5 x6 x7 x8 x9 x10 x11 x12 x13 x14).mixed (fun k => x0 (ix2 r k)) (fun k => x1 (ix2 r k)) (fun k => x2 (ix2 r k)))
          (fun m e => x3 (ix3 0 m e)) (fun m e => x4 (ix3 0 m e))) c := by
  have hx : (fun d => crossed x0 x1 x2 x3 x4 x5 x6 x7 x8 (ix2 r d))
      = (wts x5 x6 x7 x8 x9 x10 x11 x12 x13 x14).crossed ((wts x5 x6 x7 x8 x9 x10 x11 x12 x13 x14).mixed (fun k => x0 (ix2 r k)) (fun k => x1 (ix2 r k)) (fun k => x2 (ix2 r k)))
          (fun m e => x3 (ix3 0 m e)) (fun m e => x4 (ix3 0 m e)) :=
    funext fun d => crossed_apply x0 x1 x2 x3 x4 x5 x6 x7 x8 x9 x10 x11 x12 x13 x14 r d
  simp only [hn_apply, normed, hx]
  rfl

end Cert.Layer.Blk
-- ==== Proof.BlockFfn.lean ====
/-
  One grid point's feed-forward network at an index: the convolution of a column block with the carried rows, the gate,
  the eleven tiles side by side, the down-projection and the last norm.
-/
module

public import proofs.«01_k».proof.Proof.Block
public import proofs.«01_k».proof.Proof.BlockRows
public import Idealize.ShloMosaic.Lib.Tactic
public import Idealize.ShloMosaic.Lib.Pipeline.ValueKit
public import Idealize.ShloMosaic.Lib.Pipeline.ReadBack

@[expose] public section

set_option maxRecDepth 16384

noncomputable section

namespace Cert.Layer.Blk

open Cert.KernelIdeal Cert.KernelIdeal.Gen Cert.KernelIdeal.Value Idealize.ShloMosaic Idealize.ShloMosaic.TcCoe Idealize.SL.Sem

/-- The entry `n` rows before row `r` of a block, from the carried rows where that is before the block. -/
def prev {α : Type} (n : ℕ) (U : Fin 512 → α) (C : Fin 8 → α) (r : Fin 512) : α :=
  if r.val < n then C ⟨(8 - n + r.val) % 8, by omega⟩ else U ⟨r.val - n, by omega⟩

theorem rowFrom_eq (a b n : ℕ) (ha : a < 8) (hn : n < 8) (x y : EReal) :
    Scalar.select (IntOp.cmpi CmpIPredicate.sge (BitVec.ofNat 32 a) (BitVec.ofNat 32 n)) x y = if a < n then y else x := by
  have h : IntOp.cmpi CmpIPredicate.sge (BitVec.ofNat 32 a) (BitVec.ofNat 32 n) = if a < n then 0#1 else 1#1 := by
    interval_cases a <;> interval_cases n <;> decide
  rw [h]
  split_ifs <;> rfl

theorem rowZero_eq (a : ℕ) (ha : a < 8) (x y : EReal) :
    Scalar.select (IntOp.cmpi CmpIPredicate.eq (BitVec.ofNat 32 a) 0#32) x y = if a = 0 then x else y := by
  have h : IntOp.cmpi CmpIPredicate.eq (BitVec.ofNat 32 a) 0#32 = if a = 0 then 1#1 else 0#1 := by
    interval_cases a <;> decide
  rw [h]
  split_ifs <;> rfl

theorem before1_apply (u : FVec Ideal S512x256 .f32) (c : Vec Ideal S8x256 .f32) (r : Fin 8) (l : Fin 256) :
    before1 u c (ix2 r l) = prev 1 (fun s => u (ix2 s l)) (fun s => c (ix2 s l)) ⟨r.val, by omega⟩ := by
  unfold before1 rowsFrom carried7 top8 prev
  pointwise
  refine (rowFrom_eq r.val 0 1 r.isLt (by omega) _ _).trans ?_
  fin_cases r <;> rfl

theorem before2_apply (u : FVec Ideal S512x256 .f32) (c : Vec Ideal S8x256 .f32) (r : Fin 8) (l : Fin 256) :
    before2 u c (ix2 r l) = prev 2 (fun s => u (ix2 s l)) (fun s => c (ix2 s l)) ⟨r.val, by omega⟩ := by
  unfold before2 rowsFrom rowZero carried6 carried7 top8 prev
  pointwise
  refine (rowFrom_eq r.val 0 2 r.isLt (by omega) _ _).trans ?_
  rw [rowZero_eq r.val r.isLt]
  fin_cases r <;> rfl

theorem convHead_apply (u : FVec Ideal S512x256 .f32) (cw : Vec Ideal S3x256 .f32) (cb : Vec Ideal S1x256 .f32)
    (c : Vec Ideal S8x256 .f32) (r : Fin 8) (l : Fin 256) :
    convHead u cw cb c (ix2 r l) = cw (ix2 0 l) * before2 u c (ix2 r l) + cw (ix2 1 l) * before1 u c (ix2 r l)
      + cw (ix2 2 l) * u (ix2 (⟨r.val, by omega⟩ : Fin 512) l) + cb (ix2 0 l) := by
  unfold convHead top8
  pointwise

theorem convBody_apply (u : FVec Ideal S512x256 .f32) (cw : Vec Ideal S3x256 .f32) (cb : Vec Ideal S1x256 .f32) (r : Fin 512) (l : Fin 256) :
    convBody u cw cb (ix2 r l) = cw (ix2 0 l) * u (ix2 (⟨(r.val + 512 - 2) % 512, by omega⟩ : Fin 512) l)
      + cw (ix2 1 l) * u (ix2 (⟨(r.val + 512 - 1) % 512, by omega⟩ : Fin 512) l) + cw (ix2 2 l) * u (ix2 r l) + cb (ix2 0 l) := by
  unfold convBody
  pointwise

/-- The convolution of a column block, at an index. -/
theorem convolved_apply (u : FVec Ideal S512x256 .f32) (cw : Vec Ideal S3x256 .f32) (cb : Vec Ideal S1x256 .f32) (c : Vec Ideal S8x256 .f32)
    (r : Fin 512) (l : Fin 256) :
    convolved u cw cb c (ix2 r l) = cb (ix2 0 l)
      + (prev 2 (fun s => u (ix2 s l)) (fun s => c (ix2 s l)) r * cw (ix2 0 l)
        + prev 1 (fun s => u (ix2 s l)) (fun s => c (ix2 s l)) r * cw (ix2 1 l) + u (ix2 r l) * cw (ix2 2 l)) := by
  have comm : ∀ a b c x y z w : EReal, a * x + b * y + c * z + w = w + (x * a + y * b + z * c) := by
    intro a b c x y z w
    rw [add_comm, mul_comm a, mul_comm b, mul_comm c]
  have split : convolved u cw cb c (ix2 r l) = if h : r.val < 8 then convHead u cw cb c (ix2 (⟨r.val, h⟩ : Fin 8) l)
      else convBody u cw cb (ix2 (⟨8 + (r.val - 8), by omega⟩ : Fin 512) l) := by
    unfold convolved
    pointwise
  rw [split]
  split_ifs with h
  · rw [convHead_apply, before1_apply, before2_apply, comm]
  · have e : (⟨8 + (r.val - 8), by omega⟩ : Fin 512) = r := Fin.ext (by simp only; omega)
    have e1 : (⟨(r.val + 512 - 1) % 512, by omega⟩ : Fin 512) = ⟨r.val - 1, by omega⟩ := Fin.ext (by simp only; omega)
    have e2 : (⟨(r.val + 512 - 2) % 512, by omega⟩ : Fin 512) = ⟨r.val - 2, by omega⟩ := Fin.ext (by simp only; omega)
    rw [e, convBody_apply, comm, e1, e2]
    unfold prev
    rw [if_neg (by omega), if_neg (by omega)]

/-- The gate, at an index. -/
theorem swished_apply (g : FVec Ideal S512x256 .f32) (r : Fin 512) (l : Fin 256) :
    swished g (ix2 r l) = g (ix2 r l) * Ideal.div 1 (1 + Ideal.exp (-(g (ix2 r l)))) := by
  unfold swished
  pointwise
  exact congrArg _ (half_tanh _)

/-- The up-projection of a column block, at an index of the whole width. -/
theorem up_apply (hn : FVec Ideal S512x1024 .bf16) (w : Vec Ideal S1024x5632 .bf16) (o : ℕ) (h : o + 256 ≤ 5632)
    (r : Fin 512) (l : Fin 256) :
    lifted hn w o h (ix2 r l) = ∑ e, hn (ix2 r e) * w (ix2 e (⟨o + l.val, by omega⟩ : Fin 5632)) := by
  unfold lifted
  pointwise

theorem taps_apply (x : Vec Ideal S3x5632 .f32) (o : ℕ) (h : o + 256 ≤ 5632) (inb) (t : Fin 3) (l : Fin 256) :
    (View.ld x (Rect.unit (s := S3x5632) ![0, o] S3x256.size inb) : Vec Ideal S3x256 .f32) (ix2 t l)
      = x (ix2 t (⟨o + l.val, by omega⟩ : Fin 5632)) := by
  pointwise

theorem bias_apply (x : Vec Ideal S1x5632 .f32) (o : ℕ) (h : o + 256 ≤ 5632) (inb) (l : Fin 256) :
    (View.ld x (Rect.unit (s := S1x5632) ![0, o] S1x256.size inb) : Vec Ideal S1x256 .f32) (ix2 0 l)
      = x (ix2 0 (⟨o + l.val, by omega⟩ : Fin 5632)) := by
  pointwise

theorem carry_apply (x : Vec Ideal S8x5632 .f32) (o : ℕ) (h : o + 256 ≤ 5632) (inb) (t : Fin 8) (l : Fin 256) :
    (View.ld x (Rect.unit (s := S8x5632) ![0, o] S8x256.size inb) : Vec Ideal S8x256 .f32) (ix2 t l)
      = x (ix2 t (⟨o + l.val, by omega⟩ : Fin 5632)) := by
  pointwise

variable (x5 : Vec Ideal S1024x1024 .bf16) (x6 : Vec Ideal S1x1024 .f32) (x7 x8 : Vec Ideal S1024x1024 .bf16) (x9 : Vec Ideal S1x1024 .f32)
  (x10 : Vec Ideal S1024x5632 .bf16) (x11 : Vec Ideal S3x5632 .f32) (x12 : Vec Ideal S1x5632 .f32) (x13 : Vec Ideal S2816x1024 .bf16)
  (x14 : Vec Ideal S1x1024 .f32) (hn : FVec Ideal S512x1024 .bf16) (c : Vec Ideal S8x5632 .f32)

/-- The up-projections of a block's rows. -/
def ups (hn : FVec Ideal S512x1024 .bf16) (w : Vec Ideal S1024x5632 .bf16) (s : Fin 512) (k : Fin 5632) : EReal :=
  ∑ e, hn (ix2 s e) * w (ix2 e k)

/-- The convolution at a column of the whole width. -/
theorem convAt_apply (o : ℕ) (h : o + 256 ≤ 5632) (r : Fin 512) (l : Fin 256) (k : Fin 5632) (hk : k.val = o + l.val) :
    convAt hn x10 x11 x12 c o h (ix2 r l) = (wts x5 x6 x7 x8 x9 x10 x11 x12 x13 x14).conv (prev 2 (ups hn x10) (fun s k => c (ix2 s k)) r k)
      (prev 1 (ups hn x10) (fun s k => c (ix2 s k)) r k) (ups hn x10 r k) k := by
  obtain ⟨kv, hkv⟩ := k
  obtain rfl : kv = o + l.val := hk
  have p : ∀ n, prev n (fun s => lifted hn x10 o h (ix2 s l))
        (fun s => (View.ld c (Rect.unit (s := S8x5632) ![0, o] S8x256.size (cols_inb o h)) : Vec Ideal S8x256 .f32) (ix2 s l)) r
      = prev n (ups hn x10) (fun s k => c (ix2 s k)) r ⟨o + l.val, hkv⟩ := by
    intro n
    unfold prev
    split_ifs
    · exact carry_apply c o h _ _ l
    · exact up_apply hn x10 o h _ l
  unfold convAt
  refine (convolved_apply _ _ _ _ r l).trans ?_
  rw [p, p, up_apply, taps_apply x11 o h, taps_apply x11 o h, taps_apply x11 o h, bias_apply x12 o h]
  rfl

/-- One tile of activations, at a column of the whole width. -/
theorem actAt_apply (o : ℕ) (h : o + 256 ≤ 2816) (r : Fin 512) (l : Fin 256) (j : Fin 2816) (hj : j.val = o + l.val) :
    actAt hn x10 x11 x12 c o h (ix2 r l) = (wts x5 x6 x7 x8 x9 x10 x11 x12 x13 x14).act (prev 2 (ups hn x10) (fun s k => c (ix2 s k)) r)
      (prev 1 (ups hn x10) (fun s k => c (ix2 s k)) r) (ups hn x10 r) j := by
  have e : actAt hn x10 x11 x12 c o h (ix2 r l)
      = swished (convAt hn x10 x11 x12 c o (by omega)) (ix2 r l) * convAt hn x10 x11 x12 c (2816 + o) (by omega) (ix2 r l) := rfl
  rw [e, swished_apply, convAt_apply x5 x6 x7 x8 x9 x10 x11 x12 x13 x14 hn c o _ r l ⟨j.val, by omega⟩ hj,
    convAt_apply x5 x6 x7 x8 x9 x10 x11 x12 x13 x14 hn c (2816 + o) _ r l ⟨2816 + j.val, by omega⟩ (by simp only; omega)]
  rfl

/-- Both branches of a case distinction give `v`. -/
theorem both {p : Prop} [Decidable p] {α : Type} {a : p → α} {b : ¬p → α} {v : α} (ha : ∀ h, a h = v) (hb : ∀ h, b h = v) :
    dite p a b = v := by
  by_cases h : p
  · rw [dif_pos h]; exact ha h
  · rw [dif_neg h]; exact hb h

/-- The activations, at an index. -/
theorem acts_apply (r : Fin 512) (j : Fin 2816) :
    acts hn x10 x11 x12 c (ix2 r j) = (wts x5 x6 x7 x8 x9 x10 x11 x12 x13 x14).act (prev 2 (ups hn x10) (fun s k => c (ix2 s k)) r)
      (prev 1 (ups hn x10) (fun s k => c (ix2 s k)) r) (ups hn x10 r) j := by
  unfold acts
  pointwise
  iterate 10 refine both (fun _ => actAt_apply x5 x6 x7 x8 x9 x10 x11 x12 x13 x14 hn c _ _ r _ j (by first | omega | (dsimp only; omega))) fun _ => ?_
  exact actAt_apply x5 x6 x7 x8 x9 x10 x11 x12 x13 x14 hn c _ _ r _ j (by first | omega | (dsimp only; omega))

/-- The output block, at an index. -/
theorem outY_apply (x : FVec Ideal S512x1024 .f32) (r : Fin 512) (d : Fin 1024) :
    outY x hn x10 x11 x12 x13 x14 c (ix2 r d) = (wts x5 x6 x7 x8 x9 x10 x11 x12 x13 x14).final (fun k => x (ix2 r k))
      ((wts x5 x6 x7 x8 x9 x10 x11 x12 x13 x14).act (prev 2 (ups hn x10) (fun s k => c (ix2 s k)) r) (prev 1 (ups hn x10) (fun s k => c (ix2 s k)) r) (ups hn x10 r)) d := by
  unfold outY
  rw [last_apply]
  simp only [acts_apply x5 x6 x7 x8 x9 x10 x11 x12 x13 x14]
  rfl

end Cert.Layer.Blk
-- ==== Proof.Stores.lean ====
module

public import proofs.«01_k».proof.Proof.Block
public import proofs.«01_k».proof.Proof.Rows
public import Idealize.ShloMosaic.Lib.Tactic
public import Idealize.ShloMosaic.Lib.Pipeline.ValueKit
public import Idealize.ShloMosaic.Lib.Pipeline.ReadBack

@[expose] public section

set_option maxRecDepth 16384

noncomputable section

namespace Cert.Layer.Blk

open Cert.KernelIdeal Cert.KernelIdeal.Gen Cert.KernelIdeal.Value Idealize.ShloMosaic Idealize.ShloMosaic.TcCoe Idealize.SL.Sem

/-- The up-projection of a column block, at an index. -/
theorem lifted_apply (hn : FVec Ideal S512x1024 .bf16) (w : Vec Ideal S1024x5632 .bf16) (o : ℕ) (h : o + 256 ≤ 5632)
    (r : Fin 512) (l : Fin 256) (k : Fin 5632) (hk : k.val = o + l.val) :
    lifted hn w o h (ix2 r l) = ∑ e, hn (ix2 r e) * w (ix2 e k) := by
  unfold lifted
  pointwise
  rw [show k = ⟨o + l.val, by omega⟩ from Fin.ext hk]

theorem last2_apply (hn : FVec Ideal S512x1024 .bf16) (w : Vec Ideal S1024x5632 .bf16) (o : ℕ) (h : o + 256 ≤ 5632)
    (q : S1x2x256.Idx) (r : Fin 2) (k : Fin 5632) (hr : r.val = (q 1).val) (hk : k.val = o + (q 2).val) :
    last2 (lifted hn w o h) q = ∑ e, hn (ix2 (⟨510 + r.val, by omega⟩ : Fin 512) e) * w (ix2 e k) := by
  unfold last2
  idx_vars q
  pointwise
  obtain rfl : r = q1 := Fin.ext hr
  exact lifted_apply hn w o h _ q2 k hk

theorem last8_apply (hn : FVec Ideal S512x1024 .bf16) (w : Vec Ideal S1024x5632 .bf16) (o : ℕ) (h : o + 256 ≤ 5632)
    (q : S8x256.Idx) (r : Fin 8) (k : Fin 5632) (hr : r.val = (q 0).val) (hk : k.val = o + (q 1).val) :
    last8 (lifted hn w o h) q = ∑ e, hn (ix2 (⟨504 + r.val, by omega⟩ : Fin 512) e) * w (ix2 e k) := by
  unfold last8
  idx_vars q
  pointwise
  obtain rfl : r = q0 := Fin.ext hr
  exact lifted_apply hn w o h _ q1 k hk

/-- The up-projections of a block's last two rows, over all columns. -/
def rows2 (hn : FVec Ideal S512x1024 .bf16) (w : Vec Ideal S1024x5632 .bf16) : Vec Ideal S1x2x5632 .f32 :=
  fun y => ∑ e, hn (ix2 (⟨510 + (y 1).val, by have : (y 1).val < 2 := (y 1).isLt; omega⟩ : Fin 512) e) * w (ix2 e (y 2 : Fin 5632))

/-- The up-projections of a block's last eight rows, over all columns. -/
def rows8 (hn : FVec Ideal S512x1024 .bf16) (w : Vec Ideal S1024x5632 .bf16) : Vec Ideal S8x5632 .f32 :=
  fun y => ∑ e, hn (ix2 (⟨504 + (y 0).val, by have : (y 0).val < 8 := (y 0).isLt; omega⟩ : Fin 512) e) * w (ix2 e (y 1 : Fin 5632))

/-- One store of the last two rows is a block of `rows2`. -/
theorem piece2 (hn : FVec Ideal S512x1024 .bf16) (w : Vec Ideal S1024x5632 .bf16) (o : ℕ) (h : o + 256 ≤ 5632) (inb)
    (x : (Rect.unit (s := S1x2x5632) ![0, 0, o] ![1, 2, 256] inb).shape.Idx) :
    last2 (lifted hn w o h) x = rows2 hn w ((Rect.unit (s := S1x2x5632) ![0, 0, o] ![1, 2, 256] inb).emb x) :=
  last2_apply hn w o h x _ _ ((Rect.idx_unit_val (s := S1x2x5632) ![0, 0, o] ![1, 2, 256] inb x 1).trans (Nat.zero_add _))
    (Rect.idx_unit_val (s := S1x2x5632) ![0, 0, o] ![1, 2, 256] inb x 2)

/-- One store of the last eight rows is a block of `rows8`. -/
theorem piece8 (hn : FVec Ideal S512x1024 .bf16) (w : Vec Ideal S1024x5632 .bf16) (o : ℕ) (h : o + 256 ≤ 5632) (inb)
    (x : (Rect.unit (s := S8x5632) ![0, o] ![8, 256] inb).shape.Idx) :
    last8 (lifted hn w o h) x = rows8 hn w ((Rect.unit (s := S8x5632) ![0, o] ![8, 256] inb).emb x) :=
  last8_apply hn w o h x _ _ ((Rect.idx_unit_val (s := S8x5632) ![0, o] ![8, 256] inb x 0).trans (Nat.zero_add _))
    (Rect.idx_unit_val (s := S8x5632) ![0, o] ![8, 256] inb x 1)

/-- The stores of the last two rows, read back, over any earlier ones. -/
theorem canon_tails2 (hn : FVec Ideal S512x1024 .bf16) (w : Vec Ideal S1024x5632 .bf16) : View.canon (tails2 hn w) = rows2 hn w :=
  funext fun y => (congrArg (fun L => View.canon L y) (List.append_nil (tails2 hn w)).symm).trans
    (View.canon_append_of_piecesOf (rows2 hn w) [] (tails2 hn w)
      ⟨piece2 hn w 5376 (by omega) inb_S1x2x5632_S1x2x256_0_0_5376,
       piece2 hn w 2560 (by omega) inb_S1x2x5632_S1x2x256_0_0_2560,
       piece2 hn w 5120 (by omega) inb_S1x2x5632_S1x2x256_0_0_5120,
       piece2 hn w 2304 (by omega) inb_S1x2x5632_S1x2x256_0_0_2304,
       piece2 hn w 4864 (by omega) inb_S1x2x5632_S1x2x256_0_0_4864,
       piece2 hn w 2048 (by omega) inb_S1x2x5632_S1x2x256_0_0_2048,
       piece2 hn w 4608 (by omega) inb_S1x2x5632_S1x2x256_0_0_4608,
       piece2 hn w 1792 (by omega) inb_S1x2x5632_S1x2x256_0_0_1792,
       piece2 hn w 4352 (by omega) inb_S1x2x5632_S1x2x256_0_0_4352,
       piece2 hn w 1536 (by omega) inb_S1x2x5632_S1x2x256_0_0_1536,
       piece2 hn w 4096 (by omega) inb_S1x2x5632_S1x2x256_0_0_4096,
       piece2 hn w 1280 (by omega) inb_S1x2x5632_S1x2x256_0_0_1280,
       piece2 hn w 3840 (by omega) inb_S1x2x5632_S1x2x256_0_0_3840,
       piece2 hn w 1024 (by omega) inb_S1x2x5632_S1x2x256_0_0_1024,
       piece2 hn w 3584 (by omega) inb_S1x2x5632_S1x2x256_0_0_3584,
       piece2 hn w 768 (by omega) inb_S1x2x5632_S1x2x256_0_0_768,
       piece2 hn w 3328 (by omega) inb_S1x2x5632_S1x2x256_0_0_3328,
       piece2 hn w 512 (by omega) inb_S1x2x5632_S1x2x256_0_0_512,
       piece2 hn w 3072 (by omega) inb_S1x2x5632_S1x2x256_0_0_3072,
       piece2 hn w 256 (by omega) inb_S1x2x5632_S1x2x256_0_0_256,
       piece2 hn w 2816 (by omega) inb_S1x2x5632_S1x2x256_0_0_2816,
       piece2 hn w 0 (by omega) inb_S1x2x5632_S1x2x256_0_0_0, trivial⟩ y
      (View.cover_of_tiledL (tails2 hn w) S1x2x256.size (by sl_kernel_rfl) y))

/-- The stores of the last eight rows, read back, over any earlier ones. -/
theorem canon_tails8 (hn : FVec Ideal S512x1024 .bf16) (w : Vec Ideal S1024x5632 .bf16) (L) : View.canon (tails8 hn w ++ L) = rows8 hn w :=
  funext fun y => View.canon_append_of_piecesOf (rows8 hn w) L (tails8 hn w)
      ⟨piece8 hn w 5376 (by omega) inb_S8x5632_S8x256_0_5376,
       piece8 hn w 2560 (by omega) inb_S8x5632_S8x256_0_2560,
       piece8 hn w 5120 (by omega) inb_S8x5632_S8x256_0_5120,
       piece8 hn w 2304 (by omega) inb_S8x5632_S8x256_0_2304,
       piece8 hn w 4864 (by omega) inb_S8x5632_S8x256_0_4864,
       piece8 hn w 2048 (by omega) inb_S8x5632_S8x256_0_2048,
       piece8 hn w 4608 (by omega) inb_S8x5632_S8x256_0_4608,
       piece8 hn w 1792 (by omega) inb_S8x5632_S8x256_0_1792,
       piece8 hn w 4352 (by omega) inb_S8x5632_S8x256_0_4352,
       piece8 hn w 1536 (by omega) inb_S8x5632_S8x256_0_1536,
       piece8 hn w 4096 (by omega) inb_S8x5632_S8x256_0_4096,
       piece8 hn w 1280 (by omega) inb_S8x5632_S8x256_0_1280,
       piece8 hn w 3840 (by omega) inb_S8x5632_S8x256_0_3840,
       piece8 hn w 1024 (by omega) inb_S8x5632_S8x256_0_1024,
       piece8 hn w 3584 (by omega) inb_S8x5632_S8x256_0_3584,
       piece8 hn w 768 (by omega) inb_S8x5632_S8x256_0_768,
       piece8 hn w 3328 (by omega) inb_S8x5632_S8x256_0_3328,
       piece8 hn w 512 (by omega) inb_S8x5632_S8x256_0_512,
       piece8 hn w 3072 (by omega) inb_S8x5632_S8x256_0_3072,
       piece8 hn w 256 (by omega) inb_S8x5632_S8x256_0_256,
       piece8 hn w 2816 (by omega) inb_S8x5632_S8x256_0_2816,
       piece8 hn w 0 (by omega) inb_S8x5632_S8x256_0_0, trivial⟩ y
      (View.cover_of_tiledL (tails8 hn w) S8x256.size (by sl_kernel_rfl) y)

end Cert.Layer.Blk
-- ==== Proof.PointReads.lean ====
/-
  What each input window's block holds at a grid point, at an index: the entry of the argument it is a block of.
-/
module

public import proofs.«01_k».proof.Proof.Block
public import proofs.«01_k».proof.Proof.BlockFfn
public import proofs.«01_k».proof.Proof.Stores
public import Idealize.ShloMosaic.Lib.Tactic
public import Idealize.ShloMosaic.Lib.Pipeline.ValueKit
public import Idealize.ShloMosaic.Lib.Pipeline.ReadBack

@[expose] public section

set_option maxRecDepth 16384

noncomputable section

namespace Cert.Layer.Pt

open Cert.Layer Cert.Layer.Blk

open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD)

/-- The block indices of all input windows, decided over the grid. -/
theorem idx : ∀ t : Fin cfg0.N,
    win0_0.index t = ![t.val, 0] ∧ win0_1.index t = ![t.val, 0] ∧ win0_2.index t = ![t.val, 0]
      ∧ win0_3.index t = ![t.val / 4, 0, 0] ∧ win0_4.index t = ![t.val / 4, 0, 0]
      ∧ win0_5.index t = ![0, 0] ∧ win0_6.index t = ![0, 0] ∧ win0_7.index t = ![0, 0] ∧ win0_8.index t = ![0, 0]
      ∧ win0_9.index t = ![0, 0] ∧ win0_10.index t = ![0, 0] ∧ win0_11.index t = ![0, 0] ∧ win0_12.index t = ![0, 0]
      ∧ win0_13.index t = ![0, 0] ∧ win0_14.index t = ![0, 0] := by
  decide +kernel

theorem lt32 (t : Fin cfg0.N) : t.val < 32 := lt_of_lt_of_eq t.isLt N_0

theorem read0 (t : Fin cfg0.N) (r : Fin 512) (d : Fin 1024) :
    iblk m c 0 t (ix2 r d) = m ((c : Thread nD τ).loc main_arg0) (ix3 (⟨(512 * t.val + r.val) / 2048, by have := lt32 t; omega⟩ : Fin 8) (⟨(512 * t.val + r.val) % 2048, by omega⟩ : Fin 2048) d) := by
  have ht := lt32 t
  blk_point [iblk, V, idx t]

theorem read1 (t : Fin cfg0.N) (r : Fin 512) (d : Fin 512) :
    iblk m c 1 t (ix2 r d) = m ((c : Thread nD τ).loc main_arg1) (ix2 (⟨512 * t.val + r.val, by have := lt32 t; omega⟩ : Fin 16384) d) := by
  have ht := lt32 t
  blk_ext [iblk, V, idx t]

theorem read2 (t : Fin cfg0.N) (r : Fin 512) (d : Fin 512) :
    iblk m c 2 t (ix2 r d) = m ((c : Thread nD τ).loc main_arg2) (ix2 (⟨512 * t.val + r.val, by have := lt32 t; omega⟩ : Fin 16384) d) := by
  have ht := lt32 t
  blk_ext [iblk, V, idx t]

theorem read3 (t : Fin cfg0.N) (k : Fin 256) (d : Fin 1024) :
    iblk m c 3 t (ix3 0 k d) = m ((c : Thread nD τ).loc main_arg3) (ix3 (⟨t.val / 4, by have := lt32 t; omega⟩ : Fin 8) k d) := by
  have ht := lt32 t
  blk_ext [iblk, V, idx t]

theorem read4 (t : Fin cfg0.N) (k : Fin 256) (d : Fin 1024) :
    iblk m c 4 t (ix3 0 k d) = m ((c : Thread nD τ).loc main_arg4) (ix3 (⟨t.val / 4, by have := lt32 t; omega⟩ : Fin 8) k d) := by
  have ht := lt32 t
  blk_ext [iblk, V, idx t]

theorem read5 (t : Fin cfg0.N) (k : Fin 1024) (d : Fin 1024) :
    iblk m c 5 t (ix2 k d) = m ((c : Thread nD τ).loc main_arg5) (ix2 k d) := by
  have ht := lt32 t
  blk_ext [iblk, V, idx t]

theorem read7 (t : Fin cfg0.N) (k : Fin 1024) (d : Fin 1024) :
    iblk m c 7 t (ix2 k d) = m ((c : Thread nD τ).loc main_arg7) (ix2 k d) := by
  have ht := lt32 t
  blk_ext [iblk, V, idx t]

theorem read8 (t : Fin cfg0.N) (k : Fin 1024) (d : Fin 1024) :
    iblk m c 8 t (ix2 k d) = m ((c : Thread nD τ).loc main_arg8) (ix2 k d) := by
  have ht := lt32 t
  blk_ext [iblk, V, idx t]

theorem read10 (t : Fin cfg0.N) (k : Fin 1024) (d : Fin 5632) :
    iblk m c 10 t (ix2 k d) = m ((c : Thread nD τ).loc main_arg10) (ix2 k d) := by
  have ht := lt32 t
  blk_ext [iblk, V, idx t]

theorem read11 (t : Fin cfg0.N) (k : Fin 3) (d : Fin 5632) :
    iblk m c 11 t (ix2 k d) = m ((c : Thread nD τ).loc main_arg11) (ix2 k d) := by
  have ht := lt32 t
  blk_ext [iblk, V, idx t]

theorem read13 (t : Fin cfg0.N) (k : Fin 2816) (d : Fin 1024) :
    iblk m c 13 t (ix2 k d) = m ((c : Thread nD τ).loc main_arg13) (ix2 k d) := by
  have ht := lt32 t
  blk_ext [iblk, V, idx t]

theorem read6 (t : Fin cfg0.N) (d : Fin 1024) :
    iblk m c 6 t (ix2 0 d) = m ((c : Thread nD τ).loc main_arg6) (ix1 d) := by
  have ht := lt32 t
  blk_point [iblk, V, idx t]

theorem read9 (t : Fin cfg0.N) (d : Fin 1024) :
    iblk m c 9 t (ix2 0 d) = m ((c : Thread nD τ).loc main_arg9) (ix1 d) := by
  have ht := lt32 t
  blk_point [iblk, V, idx t]

theorem read12 (t : Fin cfg0.N) (d : Fin 5632) :
    iblk m c 12 t (ix2 0 d) = m ((c : Thread nD τ).loc main_arg12) (ix1 d) := by
  have ht := lt32 t
  blk_point [iblk, V, idx t]

theorem read14 (t : Fin cfg0.N) (d : Fin 1024) :
    iblk m c 14 t (ix2 0 d) = m ((c : Thread nD τ).loc main_arg14) (ix1 d) := by
  have ht := lt32 t
  blk_point [iblk, V, idx t]

end Cert.Layer.Pt
-- ==== Proof.Points.lean ====
/-
  The kernel's two results at an index: the layer's output and up-projections (Rows.lean) of the arguments. At every grid
  point the carried rows are the last eight up-projected rows of that point's block, so no induction over the grid is
  needed: a point that starts a sequence reads zeros, any other the rows just before its own block.
-/
module

public import proofs.«01_k».proof.Proof.Block
public import proofs.«01_k».proof.Proof.PointReads
public import Idealize.ShloMosaic.Lib.Tactic
public import Idealize.ShloMosaic.Lib.Pipeline.ValueKit
public import Idealize.ShloMosaic.Lib.Pipeline.ReadBack

@[expose] public section

set_option maxRecDepth 16384

noncomputable section

namespace Cert.Layer.Pt

open Cert.Layer Cert.Layer.Blk

open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD)

/-- The arguments as rows. -/
def inputs : Inputs where
  x n d := m ((c : Thread nD τ).loc main_arg0) (ix3 (⟨n.val / 2048, by omega⟩ : Fin 8) (⟨n.val % 2048, by omega⟩ : Fin 2048) d)
  ys n d := m ((c : Thread nD τ).loc main_arg1) (ix2 n d)
  yr n d := m ((c : Thread nD τ).loc main_arg2) (ix2 n d)
  keys b k d := m ((c : Thread nD τ).loc main_arg3) (ix3 b k d)
  vals b k d := m ((c : Thread nD τ).loc main_arg4) (ix3 b k d)
  w :=
    { out := fun k d => m ((c : Thread nD τ).loc main_arg5) (ix2 k d)
      gxa := fun d => m ((c : Thread nD τ).loc main_arg6) (ix1 d)
      wq := fun k d => m ((c : Thread nD τ).loc main_arg7) (ix2 k d)
      wo := fun k d => m ((c : Thread nD τ).loc main_arg8) (ix2 k d)
      gff := fun d => m ((c : Thread nD τ).loc main_arg9) (ix1 d)
      up := fun k d => m ((c : Thread nD τ).loc main_arg10) (ix2 k d)
      cw := fun k d => m ((c : Thread nD τ).loc main_arg11) (ix2 k d)
      cb := fun d => m ((c : Thread nD τ).loc main_arg12) (ix1 d)
      down := fun k d => m ((c : Thread nD τ).loc main_arg13) (ix2 k d)
      gf := fun d => m ((c : Thread nD τ).loc main_arg14) (ix1 d) }

/-- The row of the whole array that is row `r` of block `t`. -/
abbrev row (t : Fin cfg0.N) (r : Fin 512) : Fin 16384 := ⟨512 * t.val + r.val, by have := lt32 t; omega⟩

variable (t : Fin cfg0.N)

/-- The block's rows after the cross attention. -/
abbrev cr : FVec Ideal S512x1024 .f32 := crossed (iblk m c 0 t) (iblk m c 1 t) (iblk m c 2 t) (iblk m c 3 t) (iblk m c 4 t) (iblk m c 5 t) (iblk m c 6 t) (iblk m c 7 t) (iblk m c 8 t)

/-- The same rows, normalised for the feed-forward part. -/
abbrev hn : FVec Ideal S512x1024 .bf16 := k0_pay11 (cr m c t) (iblk m c 9 t)

theorem at_A (h0 : t.val % 4 = 0) : outsAt0 m c t.val t.isLt
    = (outY (cr m c t) (hn m c t) (iblk m c 10 t) (iblk m c 11 t) (iblk m c 12 t) (iblk m c 13 t) (iblk m c 14 t) (k0_pay10 (F := Ideal)), rows2 (hn m c t) (iblk m c 10 t), rows8 (hn m c t) (iblk m c 10 t)) := by
  rw [outsAt0_A m c t h0, out_A, tails2_A, tails8_A, canon_tails2, canon_tails8]

theorem at_B (h0 : ¬ t.val % 4 = 0) : outsAt0 m c t.val t.isLt
    = (outY (cr m c t) (hn m c t) (iblk m c 10 t) (iblk m c 11 t) (iblk m c 12 t) (iblk m c 13 t) (iblk m c 14 t) (outsAt0 m c (t.val - 1) (Nat.lt_of_le_of_lt (Nat.sub_le _ _) t.isLt)).2.2,
        rows2 (hn m c t) (iblk m c 10 t), rows8 (hn m c t) (iblk m c 10 t)) := by
  rw [outsAt0_B m c t h0, out_B, tails2_B, tails8_B, canon_tails2, canon_tails8]

theorem wts_eq : wts (iblk m c 5 t) (iblk m c 6 t) (iblk m c 7 t) (iblk m c 8 t) (iblk m c 9 t) (iblk m c 10 t) (iblk m c 11 t) (iblk m c 12 t) (iblk m c 13 t) (iblk m c 14 t) = (inputs m c).w := by
  unfold wts inputs
  simp only [read5, read6, read7, read8, read9, read10, read11, read12, read13, read14]

variable (r : Fin 512)

theorem x1_eq : (wts (iblk m c 5 t) (iblk m c 6 t) (iblk m c 7 t) (iblk m c 8 t) (iblk m c 9 t) (iblk m c 10 t) (iblk m c 11 t) (iblk m c 12 t) (iblk m c 13 t) (iblk m c 14 t)).mixed (fun k => (iblk m c 0 t) (ix2 r k)) (fun k => (iblk m c 1 t) (ix2 r k)) (fun k => (iblk m c 2 t) (ix2 r k))
    = (inputs m c).x1 (row t r) := by
  rw [wts_eq, show (fun k => (iblk m c 0 t) (ix2 r k)) = (inputs m c).x (row t r) from funext fun k => read0 m c t r k,
    show (fun k => (iblk m c 1 t) (ix2 r k)) = (inputs m c).ys (row t r) from funext fun k => read1 m c t r k,
    show (fun k => (iblk m c 2 t) (ix2 r k)) = (inputs m c).yr (row t r) from funext fun k => read2 m c t r k]
  rfl

theorem x2_rows : (wts (iblk m c 5 t) (iblk m c 6 t) (iblk m c 7 t) (iblk m c 8 t) (iblk m c 9 t) (iblk m c 10 t) (iblk m c 11 t) (iblk m c 12 t) (iblk m c 13 t) (iblk m c 14 t)).crossed ((wts (iblk m c 5 t) (iblk m c 6 t) (iblk m c 7 t) (iblk m c 8 t) (iblk m c 9 t) (iblk m c 10 t) (iblk m c 11 t) (iblk m c 12 t) (iblk m c 13 t) (iblk m c 14 t)).mixed (fun k => (iblk m c 0 t) (ix2 r k)) (fun k => (iblk m c 1 t) (ix2 r k)) (fun k => (iblk m c 2 t) (ix2 r k)))
    (fun k e => (iblk m c 3 t) (ix3 0 k e)) (fun k e => (iblk m c 4 t) (ix3 0 k e)) = (inputs m c).x2 (row t r) := by
  have e : (⟨t.val / 4, by have := lt32 t; omega⟩ : Fin 8) = ⟨(row t r).val / 2048, by omega⟩ := Fin.ext (by dsimp only; omega)
  have e3 : (fun k e => (iblk m c 3 t) (ix3 0 k e)) = (inputs m c).keys ⟨(row t r).val / 2048, by omega⟩ := by
    rw [← e]
    exact funext fun k => funext fun d => read3 m c t k d
  have e4 : (fun k e => (iblk m c 4 t) (ix3 0 k e)) = (inputs m c).vals ⟨(row t r).val / 2048, by omega⟩ := by
    rw [← e]
    exact funext fun k => funext fun d => read4 m c t k d
  rw [x1_eq, wts_eq, e3, e4]
  rfl

theorem cr_eq : (fun d => cr m c t (ix2 r d)) = (inputs m c).x2 (row t r) :=
  (funext fun d => crossed_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r d).trans (x2_rows m c t r)

theorem ups_eq : ups (hn m c t) (iblk m c 10 t) r = (inputs m c).u (row t r) := by
  funext k
  refine (hn_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r k).trans ?_
  rw [x2_rows, wts_eq]
  rfl

/-- What the next point finds in the carried rows. -/
theorem carry_eq (h : Fin 8) (k : Fin 5632) :
    (outsAt0 m c t.val t.isLt).2.2 (ix2 h k) = (inputs m c).u (row t ⟨504 + h.val, by omega⟩) k := by
  have e : (outsAt0 m c t.val t.isLt).2.2 = rows8 (hn m c t) (iblk m c 10 t) := by
    by_cases h0 : t.val % 4 = 0
    · rw [at_A m c t h0]
    · rw [at_B m c t h0]
  rw [e]
  exact congrFun (ups_eq m c t ⟨504 + h.val, by omega⟩) k

/-- The up-projections `n` rows before, from zeros at the start of a sequence. -/
theorem prev_A (h0 : t.val % 4 = 0) (n : ℕ) (C : Fin 8 → Fin 5632 → EReal) (hC : ∀ h k, C h k = 0) :
    prev n (ups (hn m c t) (iblk m c 10 t)) C r = (inputs m c).back n (row t r) := by
  funext k
  unfold prev Inputs.back
  have e : (row t r).val % 2048 = r.val := by dsimp only; omega
  rw [e]
  split_ifs with h
  · exact hC _ _
  · rw [ups_eq]
    exact congrFun (congrArg _ (Fin.ext (by dsimp only; omega))) k

/-- The up-projections `n` rows before, from the previous point's last rows. -/
theorem prev_B (h0 : ¬ t.val % 4 = 0) (n : ℕ) (hn8 : n ≤ 8) (C : Fin 8 → Fin 5632 → EReal)
    (hC : ∀ h k, C h k = (inputs m c).u (⟨512 * (t.val - 1) + (504 + h.val), by have := lt32 t; omega⟩ : Fin 16384) k) :
    prev n (ups (hn m c t) (iblk m c 10 t)) C r = (inputs m c).back n (row t r) := by
  funext k
  unfold prev Inputs.back
  have e : ¬ (row t r).val % 2048 < n := by dsimp only; omega
  rw [if_neg e]
  split_ifs with h
  · rw [hC]
    exact congrFun (congrArg _ (Fin.ext (by dsimp only; omega))) k
  · rw [ups_eq]
    exact congrFun (congrArg _ (Fin.ext (by dsimp only; omega))) k

theorem start_zero (h : Fin 8) (k : Fin 5632) : (k0_pay10 (F := Ideal)) (ix2 h k) = 0 := by
  pointwise [k0_pay10]

/-- The first result of a point. -/
theorem y_at (d : Fin 1024) : (outsAt0 m c t.val t.isLt).1 (ix2 r d) = (inputs m c).y (row t r) d := by
  have key : ∀ C : Vec Ideal S8x5632 .f32,
      (∀ n, n ≤ 8 → prev n (ups (hn m c t) (iblk m c 10 t)) (fun s k => C (ix2 s k)) r = (inputs m c).back n (row t r)) →
      outY (cr m c t) (hn m c t) (iblk m c 10 t) (iblk m c 11 t) (iblk m c 12 t) (iblk m c 13 t) (iblk m c 14 t) C (ix2 r d) = (inputs m c).y (row t r) d := by
    intro C hC
    refine (outY_apply (iblk m c 5 t) (iblk m c 6 t) (iblk m c 7 t) (iblk m c 8 t) (iblk m c 9 t) (iblk m c 10 t) (iblk m c 11 t) (iblk m c 12 t) (iblk m c 13 t) (iblk m c 14 t) (hn m c t) C (cr m c t) r d).trans ?_
    rw [hC 2 (by omega), hC 1 (by omega), ups_eq, cr_eq, wts_eq]
    rfl
  by_cases h0 : t.val % 4 = 0
  · rw [at_A m c t h0]
    exact key _ fun n _ => prev_A m c t r h0 n _ start_zero
  · rw [at_B m c t h0]
    exact key _ fun n h8 => prev_B m c t r h0 n h8 _ fun h k =>
      carry_eq m c ⟨t.val - 1, Nat.lt_of_le_of_lt (Nat.sub_le _ _) t.isLt⟩ h k

/-- The second result of a point. -/
theorem u_at (q : Fin 2) (k : Fin 5632) :
    (outsAt0 m c t.val t.isLt).2.1 (ix3 0 q k) = (inputs m c).u (row t ⟨510 + q.val, by omega⟩) k := by
  have e : (outsAt0 m c t.val t.isLt).2.1 = rows2 (hn m c t) (iblk m c 10 t) := by
    by_cases h0 : t.val % 4 = 0
    · rw [at_A m c t h0]
    · rw [at_B m c t h0]
  rw [e]
  exact congrFun (ups_eq m c t ⟨510 + q.val, by omega⟩) k

/-- The first result array. -/
theorem y_eq (n : Fin 16384) (d : Fin 1024) : G15 m c (ix2 n d) = (inputs m c).y n d := by
  have key : ∀ (p : ℕ) (hp : p < cfg0.N) (q : S512x1024.Idx), p = n.val / 512 → q = ix2 (⟨n.val % 512, by omega⟩ : Fin 512) d →
      (outsAt0 m c p hp).1 q = (inputs m c).y n d := by
    rintro _ hp _ rfl rfl
    refine (y_at m c ⟨n.val / 512, hp⟩ ⟨n.val % 512, by omega⟩ d).trans ?_
    exact congrFun (congrArg _ (Fin.ext (by dsimp only; omega))) d
  have h : pt15Of (ix2 n d) < cfg0.N :=
    lt_of_lt_of_eq (show 1 * (n.val / 512 - 0) + 1 * (d.val / 1024 - 0) < 32 by omega) N_0.symm
  unfold G15
  rw [dif_pos h, ← outsAt0_sweep m c _ h]
  refine key _ h _ (show 1 * (n.val / 512 - 0) + 1 * (d.val / 1024 - 0) = n.val / 512 by omega) ?_
  funext a
  apply Fin.ext
  match a with
  | ⟨0, _⟩ => rfl
  | ⟨1, _⟩ => exact Nat.mod_eq_of_lt d.isLt

/-- The second result array. -/
theorem u_eq (p : Fin 32) (q : Fin 2) (k : Fin 5632) :
    G16 m c (ix3 p q k) = (inputs m c).u ⟨512 * p.val + 510 + q.val, by omega⟩ k := by
  have key : ∀ (t : ℕ) (ht : t < cfg0.N) (i : S1x2x5632.Idx), t = p.val → i = ix3 (0 : Fin 1) q k →
      (outsAt0 m c t ht).2.1 i = (inputs m c).u ⟨512 * p.val + 510 + q.val, by omega⟩ k := by
    rintro _ ht _ rfl rfl
    refine (u_at m c ⟨p.val, ht⟩ q k).trans ?_
    exact congrFun (congrArg _ (Fin.ext (by dsimp only; omega))) k
  have h : pt16Of (ix3 p q k) < cfg0.N :=
    lt_of_lt_of_eq (show 1 * (p.val / 1 - 0) + 1 * (q.val / 2 - 0) + 1 * (k.val / 5632 - 0) < 32 by omega) N_0.symm
  unfold G16
  rw [dif_pos h, ← outsAt0_sweep m c _ h]
  refine key _ h _ (show 1 * (p.val / 1 - 0) + 1 * (q.val / 2 - 0) + 1 * (k.val / 5632 - 0) = p.val by omega) ?_
  funext a
  apply Fin.ext
  match a with
  | ⟨0, _⟩ => exact Nat.mod_one p.val
  | ⟨1, _⟩ => exact Nat.mod_eq_of_lt q.isLt
  | ⟨2, _⟩ => exact Nat.mod_eq_of_lt k.isLt

end Cert.Layer.Pt
-- ==== Proof.RefRows.lean ====
/-
  The reference's arrays, read at an index: each named value of its run is the row function of `Rows.lean`.
-/
module

public import proofs.«01_k».proof.Proof.Rows
public import proofs.«01_k».proof.Proof.Gen.ReferenceIdeal.Run
public import Idealize.ShloMosaic.Lib.Tactic.CleanTypes

@[expose] public section

set_option maxRecDepth 16384

noncomputable section

namespace Cert.Layer.Ref

open Cert.Layer Cert.ReferenceIdeal Cert.ReferenceIdeal.Gen Cert.ReferenceIdeal.Value
open Idealize.ShloMosaic Idealize.ShloMosaic.TcCoe Idealize.SL.Sem Idealize.ShloMosaic.StableHlo

variable (V : Valuation τ sig (Elt Ideal))

/-- The reference's arguments as the layer's inputs. -/
def inputs : Inputs where
  x n d := V (Proc.devRef .tc main_arg0) (ix3 (⟨n.val / 2048, by omega⟩ : Fin 8) (⟨n.val % 2048, by omega⟩ : Fin 2048) d)
  ys n d := V (Proc.devRef .tc main_arg1) (ix2 n d)
  yr n d := V (Proc.devRef .tc main_arg2) (ix2 n d)
  keys b m d := V (Proc.devRef .tc main_arg3) (ix3 b m d)
  vals b m d := V (Proc.devRef .tc main_arg4) (ix3 b m d)
  w :=
    { out := fun k d => V (Proc.devRef .tc main_arg5) (ix2 k d)
      gxa := fun d => V (Proc.devRef .tc main_arg6) (ix1 d)
      wq := fun k d => V (Proc.devRef .tc main_arg7) (ix2 k d)
      wo := fun k d => V (Proc.devRef .tc main_arg8) (ix2 k d)
      gff := fun d => V (Proc.devRef .tc main_arg9) (ix1 d)
      up := fun k d => V (Proc.devRef .tc main_arg10) (ix2 k d)
      cw := fun k d => V (Proc.devRef .tc main_arg11) (ix2 k d)
      cb := fun d => V (Proc.devRef .tc main_arg12) (ix1 d)
      down := fun k d => V (Proc.devRef .tc main_arg13) (ix2 k d)
      gf := fun d => V (Proc.devRef .tc main_arg14) (ix1 d) }

/-- The row of position `l` of sequence `b`. -/
abbrev row (b : Fin 8) (l : Fin 2048) : Fin 16384 := ⟨b.val * 2048 + l.val, by omega⟩

theorem row_div (b : Fin 8) (l : Fin 2048) : (⟨(row b l).val / 2048, by omega⟩ : Fin 8) = b := Fin.ext (by simp only; omega)
theorem row_mod (b : Fin 8) (l : Fin 2048) : (⟨(row b l).val % 2048, by omega⟩ : Fin 2048) = l := Fin.ext (by simp only; omega)

theorem inputs_x (b : Fin 8) (l : Fin 2048) (d : Fin 1024) :
    (inputs V).x (row b l) d = V (Proc.devRef .tc main_arg0) (ix3 b l d) := by
  show V (Proc.devRef .tc main_arg0) (ix3 ⟨(row b l).val / 2048, _⟩ ⟨(row b l).val % 2048, _⟩ d) = _
  rw [row_div, row_mod]

/-- After the mixers. -/
theorem x1_eq (b : Fin 8) (l : Fin 2048) (d : Fin 1024) :
    res_main_v8 V (ix3 b l d) = (inputs V).x1 (row b l) d := by
  unfold res_main_v8
  clean_types
  pointwise
  unfold Inputs.x1 Weights.mixed
  rw [inputs_x]
  rfl

/-- The scores. -/
theorem score_eq (b : Fin 8) (h : Fin 4) (l : Fin 2048) (m : Fin 256) :
    res_main_v26 V (ix4 b h l m) = score ((inputs V).w.query ((inputs V).x1 (row b l))) ((inputs V).keys b) h m := by
  unfold res_main_v26
  clean_types
  pointwise
  simp only [x1_eq]
  rfl

/-- A maximum along the last of four axes, whatever the extents are. -/
theorem rowMax4 {a b c d : ℕ} (s : FVec Ideal ⟨4, ![a, b, c, d]⟩ .f32) (init : FVec Ideal ⟨0, ![]⟩ .f32)
    (h : (⟨4, ![a, b, c, d]⟩ : Shape).ReducesTo [3] ⟨3, ![a, b, c]⟩) (hu : 0 < (⟨0, ![]⟩ : Shape).numel)
    (i : Fin a) (j : Fin b) (k : Fin c) :
    Host.reduce (FloatOps.maximumf (F := Ideal) (φ := .f32)) s init h hu (ix3 i j k)
      = Finset.fold max (init ix0) (fun m => s (ix4 i j k m)) Finset.univ := by
  rw [Host.reduce_eq_fold, Shape.ReducesTo.fold_fiber_r4_a3]
  have e : Shape.Idx.first hu = ix0 := funext fun a => a.elim0
  rw [e]
  rfl

/-- The exponential of the distance to a row's maximum, read at an index. -/
theorem expo_tail (s : FVec Ideal S8x4x2048x256 .f32) (M : FVec Ideal S8x4x2048 .f32) (b : Fin 8) (h : Fin 4)
    (l : Fin 2048) (m : Fin 256) :
    Host.exp (F := Ideal) (subf s (broadcastInDim S8x4x2048x256 ![0, 1, 2, 3] bcast_S8x4x2048x1_S8x4x2048x256_0_1_2_3
      (broadcastInDim S8x4x2048x1 ![0, 1, 2] bcast_S8x4x2048_S8x4x2048x1_0_1_2
        (maximumf (broadcastInDim S8x4x2048 ![] bcast_S_S8x4x2048 (constant S_ .f32 0xFF800000#32)) M)))) (ix4 b h l m)
      = Ideal.exp (s (ix4 b h l m) - max (Ideal.ofBits .f32 0xFF800000#32) (M (ix3 b h l))) := by
  pointwise

/-- The exponentials. -/
theorem expo_eq (b : Fin 8) (h : Fin 4) (l : Fin 2048) (m : Fin 256) :
    res_main_v33 V (ix4 b h l m)
      = expo (score ((inputs V).w.query ((inputs V).x1 (row b l))) ((inputs V).keys b) h) m := by
  have e : ∀ k, res_main_v26 V (ix4 b h l k)
      = score ((inputs V).w.query ((inputs V).x1 (row b l))) ((inputs V).keys b) h k := score_eq V b h l
  generalize score ((inputs V).w.query ((inputs V).x1 (row b l))) ((inputs V).keys b) h = sc at e ⊢
  unfold res_main_v33
  generalize res_main_v26 V = s at e ⊢
  refine (expo_tail s _ b h l m).trans ?_
  rw [rowMax4, e]
  refine (congrArg (fun y => Ideal.exp (sc m - y)) (max_start (Ideal.ofBits .f32 0xFF800000#32) _)).trans ?_
  unfold expo
  exact congrArg (fun f => Ideal.exp (sc m - Finset.fold max _ f Finset.univ)) (funext e)

/-- After the cross attention. -/
theorem x2_eq (b : Fin 8) (l : Fin 2048) (d : Fin 1024) :
    res_main_v42 V (ix3 b l d) = (inputs V).x2 (row b l) d := by
  unfold res_main_v42
  clean_types
  pointwise
  simp only [x1_eq, expo_eq]
  unfold Inputs.x2 Weights.crossed attended
  rw [row_div]
  rfl

/-- The row that enters the feed-forward network. -/
theorem hn_eq (b : Fin 8) (l : Fin 2048) (d : Fin 1024) :
    res_main_v55 V (ix3 b l d) = rms ((inputs V).x2 (row b l)) (inputs V).w.gff d := by
  unfold res_main_v55
  clean_types
  pointwise
  simp only [x2_eq]
  rfl

/-- The convolution. -/
theorem conv_eq (b : Fin 8) (l : Fin 2048) (c : Fin 5632) :
    res_main_v83 V (ix3 b l c)
      = (inputs V).w.conv ((inputs V).back 2 (row b l) c) ((inputs V).back 1 (row b l) c) ((inputs V).u (row b l) c) c := by
  unfold res_main_v83 res_main_v58
  clean_types
  pointwise
  simp only [hn_eq]
  have hm : (row b l).val % 2048 = l.val := by simp only; omega
  have h2 : (inputs V).back 2 (row b l) c = if h : l.val < 2 then 0 else (inputs V).u (row b ⟨l.val - 2, by omega⟩) c := by
    unfold Inputs.back
    rw [hm]
    split
    · rfl
    · exact congrArg (fun n => (inputs V).u n c) (Fin.ext (by simp only; omega))
  have h1 : (inputs V).back 1 (row b l) c
      = if h : 1 + l.val < 2 then 0 else (inputs V).u (row b ⟨1 + l.val - 2, by omega⟩) c := by
    unfold Inputs.back
    rw [hm]
    by_cases h : l.val < 1
    · rw [if_pos h, dif_pos (by omega)]
    · rw [if_neg h, dif_neg (by omega)]
      exact congrArg (fun n => (inputs V).u n c) (Fin.ext (by simp only; omega))
  rw [h2, h1]
  rfl

/-- After the feed-forward network. -/
theorem x3_eq (b : Fin 8) (l : Fin 2048) (d : Fin 1024) :
    res_main_v93 V (ix3 b l d) = (inputs V).x2 (row b l) d
      + ∑ j, (inputs V).w.act ((inputs V).back 2 (row b l)) ((inputs V).back 1 (row b l)) ((inputs V).u (row b l)) j
        * (inputs V).w.down j d := by
  unfold res_main_v93 res_main_v85
  clean_types
  pointwise
  simp only [x2_eq, conv_eq]
  rfl

/-- The reference's last operations: the norm of the last residual stream, as rows. -/
def lastNorm (x : FVec Ideal S8x2048x1024 .f32) (g : FVec Ideal S1024 .f32) : FVec Ideal S16384x1024 .f32 :=
  shapeCast S16384x1024 (mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))) shapeCasts_S8x2048x1024_S16384x1024

theorem lastNorm_apply (x : FVec Ideal S8x2048x1024 .f32) (g : FVec Ideal S1024 .f32) (n : Fin 16384) (d : Fin 1024) :
    lastNorm x g (ix2 n d) = rms (fun k => x (ix3 (⟨n.val / 2048, by omega⟩ : Fin 8) (⟨n.val % 2048, by omega⟩ : Fin 2048) k))
      (fun k => g (ix1 k)) d := by
  unfold lastNorm rms
  pointwise

/-- The up-projections of the last two rows of every 512. -/
def lastRows (x : FVec Ideal S8x2048x1024 .f32) (w : FVec Ideal S1024x5632 .f32) : FVec Ideal S32x2x5632 .f32 :=
  extractStridedSlice S32x2x5632 ![0, 510, 0] (shapeCast S32x512x5632 (Host.dotGeneral dot_S8x2048x1024_S1024x5632_S8x2048x5632_2_0_01_1_n_n none x w : FVec Ideal S8x2048x5632 .f32) shapeCasts_S8x2048x5632_S32x512x5632) slices_S32x512x5632_S32x2x5632_0_510_0

theorem lastRows_apply (x : FVec Ideal S8x2048x1024 .f32) (w : FVec Ideal S1024x5632 .f32) (p : Fin 32) (r : Fin 2)
    (k : Fin 5632) :
    lastRows x w (ix3 p r k) = ∑ e, x (ix3 (⟨(p.val * 512 + (510 + r.val)) / 2048, by omega⟩ : Fin 8)
      (⟨(p.val * 512 + (510 + r.val)) % 2048, by omega⟩ : Fin 2048) e) * w (ix2 e k) := by
  unfold lastRows
  pointwise
  have h1 : (⟨p.val / 4, by omega⟩ : Fin 8) = ⟨(p.val * 512 + (510 + r.val)) / 2048, by omega⟩ := Fin.ext (by simp only; omega)
  have h2 : (⟨p.val % 4 * 512 + (510 + r.val), by omega⟩ : Fin 2048) = ⟨(p.val * 512 + (510 + r.val)) % 2048, by omega⟩ :=
    Fin.ext (by simp only; omega)
  rw [h1, h2]

theorem row_of (n : Fin 16384) : row ⟨n.val / 2048, by omega⟩ ⟨n.val % 2048, by omega⟩ = n := Fin.ext (by simp only; omega)

/-- The reference's first result, row by row: the layer's output. -/
theorem y_eq (n : Fin 16384) (d : Fin 1024) :
    lastNorm (res_main_v93 V) (V (Proc.devRef .tc main_arg14)) (ix2 n d) = (inputs V).y n d := by
  rw [lastNorm_apply]
  simp only [x3_eq, row_of]
  rfl

/-- The reference's second result: the up-projections of the last two rows of every 512. -/
theorem buf_eq (p : Fin 32) (r : Fin 2) (k : Fin 5632) :
    lastRows (res_main_v55 V) (V (Proc.devRef .tc main_arg10)) (ix3 p r k)
      = (inputs V).u ⟨512 * p.val + 510 + r.val, by omega⟩ k := by
  rw [lastRows_apply]
  simp only [hn_eq]
  rw [show row ⟨(p.val * 512 + (510 + r.val)) / 2048, by omega⟩ ⟨(p.val * 512 + (510 + r.val)) % 2048, by omega⟩
    = (⟨512 * p.val + 510 + r.val, by omega⟩ : Fin 16384) from Fin.ext (by simp only; omega)]
  rfl

end Cert.Layer.Ref
-- ==== Proof.MixClaims.lean ====
/-
  The claims about the layer's last call: the three frames, and the kernel's two results equal to the reference's, both
  being the rows of Rows.lean over arguments that agree.
-/
module

public import proofs.«01_k».proof.Defs
public import proofs.«01_k».proof.Proof.Gen.Kernel
public import proofs.«01_k».proof.Proof.Gen.Kernel.Frame
public import proofs.«01_k».proof.Proof.Points
public import proofs.«01_k».proof.Proof.RefRows

@[expose] public section

set_option maxRecDepth 16384

noncomputable section

namespace Cert.Layer.Mix

open Idealize.ShloMosaic Idealize.ShloMosaic.TcCoe Idealize.ShloMosaic.StableHlo Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono
    (fun r h => ⟨fun c => (h c).2.2, sem_eq_zero_of_no_sems (by decide) r.2⟩) (Cert.ReferenceIdeal.Value.run (F := Ideal) m ρ)

/-- Arguments that agree are the same rows. -/
theorem inputs_eq (m : (ℓ : Loc Cert.KernelIdeal.nD Cert.KernelIdeal.τ Cert.KernelIdeal.sig) → Buf (Elt Ideal) ℓ)
    (V : Valuation Cert.ReferenceIdeal.τ Cert.ReferenceIdeal.sig (Elt Ideal)) (c : Dev Cert.KernelIdeal.nD)
    (h0 : V (Proc.devRef .tc Cert.ReferenceIdeal.main_arg0) = m ((c : Thread Cert.KernelIdeal.nD Cert.KernelIdeal.τ).loc Cert.KernelIdeal.main_arg0))
    (h1 : V (Proc.devRef .tc Cert.ReferenceIdeal.main_arg1) = m ((c : Thread Cert.KernelIdeal.nD Cert.KernelIdeal.τ).loc Cert.KernelIdeal.main_arg1))
    (h2 : V (Proc.devRef .tc Cert.ReferenceIdeal.main_arg2) = m ((c : Thread Cert.KernelIdeal.nD Cert.KernelIdeal.τ).loc Cert.KernelIdeal.main_arg2))
    (h3 : V (Proc.devRef .tc Cert.ReferenceIdeal.main_arg3) = m ((c : Thread Cert.KernelIdeal.nD Cert.KernelIdeal.τ).loc Cert.KernelIdeal.main_arg3))
    (h4 : V (Proc.devRef .tc Cert.ReferenceIdeal.main_arg4) = m ((c : Thread Cert.KernelIdeal.nD Cert.KernelIdeal.τ).loc Cert.KernelIdeal.main_arg4))
    (h5 : V (Proc.devRef .tc Cert.ReferenceIdeal.main_arg5) = m ((c : Thread Cert.KernelIdeal.nD Cert.KernelIdeal.τ).loc Cert.KernelIdeal.main_arg5))
    (h6 : V (Proc.devRef .tc Cert.ReferenceIdeal.main_arg6) = m ((c : Thread Cert.KernelIdeal.nD Cert.KernelIdeal.τ).loc Cert.KernelIdeal.main_arg6))
    (h7 : V (Proc.devRef .tc Cert.ReferenceIdeal.main_arg7) = m ((c : Thread Cert.KernelIdeal.nD Cert.KernelIdeal.τ).loc Cert.KernelIdeal.main_arg7))
    (h8 : V (Proc.devRef .tc Cert.ReferenceIdeal.main_arg8) = m ((c : Thread Cert.KernelIdeal.nD Cert.KernelIdeal.τ).loc Cert.KernelIdeal.main_arg8))
    (h9 : V (Proc.devRef .tc Cert.ReferenceIdeal.main_arg9) = m ((c : Thread Cert.KernelIdeal.nD Cert.KernelIdeal.τ).loc Cert.KernelIdeal.main_arg9))
    (h10 : V (Proc.devRef .tc Cert.ReferenceIdeal.main_arg10) = m ((c : Thread Cert.KernelIdeal.nD Cert.KernelIdeal.τ).loc Cert.KernelIdeal.main_arg10))
    (h11 : V (Proc.devRef .tc Cert.ReferenceIdeal.main_arg11) = m ((c : Thread Cert.KernelIdeal.nD Cert.KernelIdeal.τ).loc Cert.KernelIdeal.main_arg11))
    (h12 : V (Proc.devRef .tc Cert.ReferenceIdeal.main_arg12) = m ((c : Thread Cert.KernelIdeal.nD Cert.KernelIdeal.τ).loc Cert.KernelIdeal.main_arg12))
    (h13 : V (Proc.devRef .tc Cert.ReferenceIdeal.main_arg13) = m ((c : Thread Cert.KernelIdeal.nD Cert.KernelIdeal.τ).loc Cert.KernelIdeal.main_arg13))
    (h14 : V (Proc.devRef .tc Cert.ReferenceIdeal.main_arg14) = m ((c : Thread Cert.KernelIdeal.nD Cert.KernelIdeal.τ).loc Cert.KernelIdeal.main_arg14)) :
    Ref.inputs V = Pt.inputs m c := by
  unfold Ref.inputs
  rw [h0, h1, h2, h3, h4, h5, h6, h7, h8, h9, h10, h11, h12, h13, h14]
  rfl

theorem algebraic : Cert.algebraic_KernelIdeal_ReferenceIdeal := by
  intro m ρ m' ρ' _ hagree
  refine ⟨fun c => Cert.KernelIdeal.Value.G15 m c, fun c => Cert.KernelIdeal.Value.G16 m c, Cert.KernelIdeal.Value.run (F := Ideal) m ρ, ?_⟩
  refine (θ_run Cert.ReferenceIdeal.defs _ _).mono (fun r h c => ?_) (Cert.ReferenceIdeal.Value.run (F := Ideal) m' ρ')
  obtain ⟨hy, hu, hargs⟩ := h c
  obtain ⟨h0, h1, h2, h3, h4, h5, h6, h7, h8, h9, h10, h11, h12, h13, h14⟩ := hagree c
  have hin : Ref.inputs (launchContents m' c) = Pt.inputs m c := inputs_eq m _ c h0 h1 h2 h3 h4 h5 h6 h7 h8 h9 h10 h11 h12 h13 h14
  refine ⟨hy.trans ?_, hu.trans ?_, hargs⟩
  · funext i
    idx_vars i
    refine (Ref.y_eq (launchContents m' c) i0 i1).trans ?_
    rw [hin]
    exact (Pt.y_eq m c i0 i1).symm
  · funext i
    idx_vars i
    refine (Ref.buf_eq (launchContents m' c) i0 i1 i2).trans ?_
    rw [hin]
    exact (Pt.u_eq m c i0 i1 i2).symm

end Cert.Layer.Mix

end
-- ==== Proof.ProjRun.lean ====
/-
  The body of the call that normalises the tokens and projects them, at one grid point: at an even point it computes the
  normalised block and keeps it for the next point, and stores all three of its outputs; at an odd point it reads the block
  kept by the point before, and stores the first and the third.
-/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Layer.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first branch. -/
abbrev first (i : grid0.Coords) : Prop := (Scalar.cmpi .ne (Scalar.extui (Scalar.cmpi .eq (BitVec.ofNat 32 (i 1).val) 0#32)) 0#32) = 1#1

/-- It holds at the even points. -/
theorem first_iff : ∀ t : Fin cfg0.N, first (grid0.coords t) ↔ t.val % 2 = 0 := (fun t => by
    have ht : t.val < 32 := Nat.lt_of_lt_of_eq t.isLt N_0
    have e1 : (grid0.coords t 1).val = t.val / 1 % 2 := Pipeline.Grid.coords_val t 1 (by decide) rfl
    simp only [first, e1]
    word_cmp
   : ∀ t : Fin grid0.N, first (grid0.coords t) ↔ t.val % 2 = 0)

/-- So does that of its second. -/
theorem second_iff : ∀ t : Fin cfg0.N, k0_cond2 (grid0.coords t) = 1#1 ↔ t.val % 2 = 0 := (fun t => by
    have ht : t.val < 32 := Nat.lt_of_lt_of_eq t.isLt N_0
    have e1 : (grid0.coords t 1).val = t.val / 1 % 2 := Pipeline.Grid.coords_val t 1 (by decide) rfl
    simp only [k0_cond2, e1]
    word_cmp
   : ∀ t : Fin grid0.N, k0_cond2 (grid0.coords t) = 1#1 ↔ t.val % 2 = 0)

/-- A load of a whole buffer reads its contents. -/
theorem loaded {sig : RefSig} {s : Shape} {e : EltTy} {a : Memref sig .tc .vmem s e} (ha : a.IsWhole) (X : s.Idx → Elt F e) {off : Fin s.rank → ℕ} (inb : ∀ a, off a + s.size a ≤ s.size a) :
    a.view.readAt (Elt F) (Rect.unit off s.size inb).toLoadRect (ha.unread X) = X := (View.readAt_full _ _ _).trans (ha.read_unread _)

set_option maxHeartbeats 1000000 in
/-- An even point. -/
theorem run_even (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1792x1024 .bf16) (harg4 : arg4.IsWhole) (arg5 : Memref sig .tc .vmem S1024x1792 .bf16) (harg5 : arg5.IsWhole) (arg6 : Memref sig .tc .vmem S1024x128 .f32) (harg6 : arg6.IsWhole) (arg7 : Memref sig .tc .vmem S1x8x1792 .f32) (harg7 : arg7.IsWhole) (arg8 : Memref sig .tc .vmem S1024x1024 .bf16) (harg8 : arg8.IsWhole)
    (hc0 : first i) (hc1 : k0_cond2 i = 1#1) (x0 : Vec F S1024x1024 .f32) (x1 : Vec F S1x1024 .f32) (x2 : Vec F S1792x1024 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay1 x0 x1) x2) ∗ owns (c : Thread nD τ) arg6 fullShare (k0_pay5 (k0_pay1 x0 x1) x2)
            ∗ owns (c : Thread nD τ) arg7 fullShare (k0_pay4 (k0_pay1 x0 x1) x2) ∗ owns (c : Thread nD τ) arg8 fullShare (k0_pay1 x0 x1)) -∗ K ⟨⟩))
      ⊢ wp frame (wpE (defs₀ (F := F)) Variants.none c none) E (cc0_norm_proj i arg2 harg2 arg3 harg3 arg4 harg4 arg5 harg5 arg6 harg6 arg7 harg7 arg8 harg8) K := by
  simp only [cc0_norm_proj_eq_skeleton]; unfold cc0_norm_proj_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
  obtain rfl := harg2.eq_unread hf0; obtain rfl := harg3.eq_unread hf1; obtain rfl := harg4.eq_unread hf2
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro; exact (View.read_writes_full _ _ _ _ _).trans (congrArg₂ k0_pay3 ((View.readCov_full _ _ _ _ _).trans (congrArg₂ k0_pay1 (loaded harg2 x0 _) (loaded harg3 x1 _))) (loaded harg4 x2 _))
  isplitl [H4]
  · iexists _; isplitr
    swap; · iexact H4
    ipureintro; exact (View.read_writes_full _ _ _ _ _).trans (congrArg₂ k0_pay5 ((View.readCov_full _ _ _ _ _).trans (congrArg₂ k0_pay1 (loaded harg2 x0 _) (loaded harg3 x1 _))) (loaded harg4 x2 _))
  isplitl [H5]
  · iexists _; isplitr
    swap; · iexact H5
    ipureintro; exact (View.read_writes_full _ _ _ _ _).trans (congrArg₂ k0_pay4 ((View.readCov_full _ _ _ _ _).trans (congrArg₂ k0_pay1 (loaded harg2 x0 _) (loaded harg3 x1 _))) (loaded harg4 x2 _))
  · iexists _; isplitr
    swap; · iexact HS0
    ipureintro; exact (View.read_writes_full _ _ _ _ _).trans (congrArg₂ k0_pay1 (loaded harg2 x0 _) (loaded harg3 x1 _))

set_option maxHeartbeats 1000000 in
/-- An odd point. -/
theorem run_odd (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1792x1024 .bf16) (harg4 : arg4.IsWhole) (arg5 : Memref sig .tc .vmem S1024x1792 .bf16) (harg5 : arg5.IsWhole) (arg6 : Memref sig .tc .vmem S1024x128 .f32) (harg6 : arg6.IsWhole) (arg7 : Memref sig .tc .vmem S1x8x1792 .f32) (harg7 : arg7.IsWhole) (arg8 : Memref sig .tc .vmem S1024x1024 .bf16) (harg8 : arg8.IsWhole)
    (hc0 : ¬first i) (hc1 : ¬k0_cond2 i = 1#1) (x0 : Vec F S1024x1024 .f32) (x1 : Vec F S1x1024 .f32) (x2 : Vec F S1792x1024 .bf16) (dt : Vec F S1024x128 .f32) (h : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare dt ∗ (∃ d, owns (c : Thread nD τ) arg7 fullShare d) ∗ owns (c : Thread nD τ) arg8 fullShare h
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 h x2) ∗ owns (c : Thread nD τ) arg6 fullShare dt
            ∗ owns (c : Thread nD τ) arg7 fullShare (k0_pay4 h x2) ∗ owns (c : Thread nD τ) arg8 fullShare h) -∗ K ⟨⟩))
      ⊢ wp frame (wpE (defs₀ (F := F)) Variants.none c none) E (cc0_norm_proj i arg2 harg2 arg3 harg3 arg4 harg4 arg5 harg5 arg6 harg6 arg7 harg7 arg8 harg8) K := by
  simp only [cc0_norm_proj_eq_skeleton]; unfold cc0_norm_proj_skel
  unfold owns
  iintro ⟨⟨%f0, %hf0, H0⟩, ⟨%f1, %hf1, H1⟩, ⟨%f2, %hf2, H2⟩, ⟨%d3, %f3, -, H3⟩, ⟨%f4, %hf4, H4⟩, ⟨%d5, %f5, -, H5⟩, ⟨%fs0, %hfs0, HS0⟩, Hk⟩
  obtain rfl := harg2.eq_unread hf0; obtain rfl := harg3.eq_unread hf1; obtain rfl := harg4.eq_unread hf2; obtain rfl := harg6.eq_unread hf4; obtain rfl := harg8.eq_unread hfs0
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro; exact (View.read_writes_full _ _ _ _ _).trans (congrArg₂ k0_pay3 (loaded harg8 h _) (loaded harg4 x2 _))
  isplitl [H4]
  · iexists _; isplitr; · ipureintro; exact harg6.read_unread _
    iexact H4
  isplitl [H5]
  · iexists _; isplitr
    swap; · iexact H5
    ipureintro; exact (View.read_writes_full _ _ _ _ _).trans (congrArg₂ k0_pay4 (loaded harg8 h _) (loaded harg4 x2 _))
  · iexists _; isplitr; · ipureintro; exact harg8.read_unread _
    iexact HS0

end Cert.Layer.Proj

end
-- ==== Proof.ProjFrame.lean ====
/-
  The run of the call that normalises the tokens and projects them: what each grid point leaves in its output blocks, the
  launch, and that every execution ends with the arguments as they were and every semaphore at zero.

  Two consecutive points share a token block. The even one normalises it and keeps it in scratch memory, so what a point
  leaves is stated over the block at the even point of its pair.
-/
module

public import proofs.«01_k».proof.Proof.ProjRun
public import proofs.«01_k».proof.Proof.Gen.Kernel2Ideal.Frame
public import Idealize.ShloMosaic.Lib.Claim

@[expose] public section

set_option maxRecDepth 16384

noncomputable section

namespace Cert.Layer.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-! ## What a point leaves -/

/-- The even point of the pair that `t` belongs to. -/
def even (t : Fin cfg0.N) : Fin cfg0.N := ⟨t.val - t.val % 2, Nat.lt_of_le_of_lt (Nat.sub_le _ _) t.isLt⟩

theorem even_self (t : Fin cfg0.N) (h : t.val % 2 = 0) : even t = t := Fin.ext (by show t.val - t.val % 2 = _; omega)

theorem even_odd (t : Fin cfg0.N) (h : ¬t.val % 2 = 0) (ht : t.val - 1 < cfg0.N) : even t = even ⟨t.val - 1, ht⟩ :=
  Fin.ext (by show t.val - t.val % 2 = (t.val - 1) - (t.val - 1) % 2; omega)

/-- The normalised token block of the pair. -/
def tokens (c : Dev nD) (t : Fin cfg0.N) : Vec F S1024x1024 .bf16 := k0_pay1 (iblk m c 0 (even t)) (iblk m c 1 (even t))

theorem tokens_even (c : Dev nD) (t : Fin cfg0.N) (h : t.val % 2 = 0) : tokens m c t = k0_pay1 (iblk m c 0 t) (iblk m c 1 t) := by
  unfold tokens; rw [even_self t h]

theorem tokens_odd (c : Dev nD) (t : Fin cfg0.N) (h : ¬t.val % 2 = 0) (ht : t.val - 1 < cfg0.N) : tokens m c t = tokens m c ⟨t.val - 1, ht⟩ := by
  unfold tokens; rw [even_odd t h ht]

/-- The scratch buffer that keeps it. -/
abbrev keep : Memref sig .tc .vmem S1024x1024 .bf16 := Memref.whole cc0_scratch0

/-- The invariant before point `n`: the scratch buffer at what the point before left in it. -/
def inv (c : Dev nD) : (n : ℕ) → n ≤ cfg0.N → sProp 𝕄
  | 0, _ => Pipeline.ΦA spec0 c
  | n + 1, hn => iprop(owns (c : Thread nD τ) keep fullShare (tokens m c ⟨n, hn⟩) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(owns (c : Thread nD τ) keep fullShare (tokens m c ⟨n, hn⟩) ∗ (∃ r, prngReg c r)) := rfl

theorem inv_pos (c : Dev nD) (n : ℕ) (h : n ≤ cfg0.N) (hz : n ≠ 0) :
    inv m c n h = iprop(owns (c : Thread nD τ) keep fullShare (tokens m c ⟨n - 1, by omega⟩) ∗ (∃ r, prngReg c r)) := by
  cases n with
  | zero => exact absurd rfl hz
  | succ n => rfl

theorem launched_eq (c : Dev nD) :
    (Pipeline.ΦA spec0 c : sProp 𝕄) = iprop((∃ d, owns (c : Thread nD τ) keep fullShare d) ∗ (∃ r, prngReg c r)) := by
  unfold Pipeline.ΦA; rw [scopedRest0_eq]; simp only [keep, owns_whole]; try rfl

/-- The proof data of the run. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (tokens m c t) (iblk m c 2 t)
    | ⟨4, _⟩ => k0_pay5 (tokens m c t) (iblk m c 2 (even t))
    | ⟨5, _⟩ => k0_pay4 (tokens m c t) (iblk m c 2 t)
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = k0_pay3 (tokens m c t) (iblk m c 2 t) := by dsimp only [dats]
theorem after4 (c : Dev nD) (t : Fin cfg0.N) : (dats m 0 c).after 4 t = k0_pay5 (tokens m c t) (iblk m c 2 (even t)) := by dsimp only [dats]
theorem after5 (c : Dev nD) (t : Fin cfg0.N) : (dats m 0 c).after 5 t = k0_pay4 (tokens m c t) (iblk m c 2 t) := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d

/-! ## The output that only the even points store -/

/-- Whether its buffer holds nothing stored since the last write-back: so before the even points, not so before the odd ones. -/
def blank : ℕ → Bool := fun n => n % 2 == 0

theorem blank_step : ∀ t : Fin cfg0.N,
    blank (t.val + 1) = ((cfg0.win 4).flush t || (cfg0.idle 4 (cfg0.grid.coords t) && blank t.val)) := by decide +kernel

theorem not_fresh (t : Fin cfg0.N) (h : ¬t.val % 2 = 0) : cfg0.fresh 4 t.val = false := by
  rw [Pipeline.Cfg.fresh_tab cfg0 4 blank rfl blank_step t.val (Nat.le_of_lt t.isLt)]
  simp [blank, h]

theorem stored_even : ∀ t : Fin cfg0.N, t.val % 2 = 0 → cfg0.idle 4 (grid0.coords t) = false := by decide +kernel
theorem idle_odd : ∀ t : Fin cfg0.N, ¬t.val % 2 = 0 → cfg0.idle 4 (grid0.coords t) = true := by decide +kernel
theorem flush_odd : ∀ t : Fin cfg0.N, ¬t.val % 2 = 0 → (cfg0.win 4).flush t = true := by decide +kernel

theorem after4_odd (c : Dev nD) (t : Fin cfg0.N) (h : ¬t.val % 2 = 0) (ht : t.val - 1 < cfg0.N) :
    (dats m 0 c).after 4 t = (dats m 0 c).after 4 ⟨t.val - 1, ht⟩ := by
  rw [after4, after4, tokens_odd m c t h ht, even_odd t h ht]

theorem carried (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  by_cases h : t.val % 2 = 0
  · rw [stored_even t h] at hi; exact absurd hi Bool.false_ne_true
  · exact after4_odd m c t h _

/-- So before an odd point its buffer holds what the pair leaves in it. -/
theorem before4_odd (c : Dev nD) (t : Fin cfg0.N) (h : ¬t.val % 2 = 0) (d) : (dats m 0 c).before 4 t d = (dats m 0 c).after 4 t := by
  rw [Dat.before_out_traj _ 4 rfl (fun _ _ => rfl) (carried m c) t.val t rfl d,
    if_neg (by rw [not_fresh t h]; exact Bool.false_ne_true)]
  exact (after4_odd m c t h _).symm

theorem leaves0 (c : Dev nD) (t : Fin cfg0.N) : (dats m 0 c).leavesExact 0 t = owns (c : Thread nD τ) (win0_0.stage (cfg0.slots t 0)) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (win0_1.stage (cfg0.slots t 1)) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (win0_2.stage (cfg0.slots t 2)) fullShare (iblk m c 2 t) := by
  unfold Dat.leavesExact; rw [show cfg0.idle 2 (cfg0.grid.coords t) = false from rfl, after2]
theorem leaves3 (c : Dev nD) (t : Fin cfg0.N) : (dats m 0 c).leavesExact 3 t = owns (c : Thread nD τ) (win0_3.stage (cfg0.slots t 3)) fullShare (k0_pay3 (tokens m c t) (iblk m c 2 t)) := by
  unfold Dat.leavesExact; rw [show cfg0.idle 3 (cfg0.grid.coords t) = false from rfl, after3]
theorem leaves5 (c : Dev nD) (t : Fin cfg0.N) : (dats m 0 c).leavesExact 5 t = owns (c : Thread nD τ) (win0_5.stage (cfg0.slots t 5)) fullShare (k0_pay4 (tokens m c t) (iblk m c 2 t)) := by
  unfold Dat.leavesExact; rw [show cfg0.idle 5 (cfg0.grid.coords t) = false from rfl, after5]
theorem leaves4 (c : Dev nD) (t : Fin cfg0.N) : (dats m 0 c).leavesExact 4 t = owns (c : Thread nD τ) (win0_4.stage (cfg0.slots t 4)) fullShare ((dats m 0 c).after 4 t) := by
  unfold Dat.leavesExact
  by_cases h : t.val % 2 = 0
  · rw [show cfg0.idle 4 (cfg0.grid.coords t) = false from stored_even t h]
  · rw [show cfg0.idle 4 (cfg0.grid.coords t) = true from idle_odd t h, flush_odd t h]

/-! ## The body at a point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The invariant hands an even point the scratch buffer at something. -/
theorem inv_any (c : Dev nD) (t : Fin cfg0.N) :
    (dats m 0 c).Φ t.castSucc ⊢ iprop((∃ d, owns (c : Thread nD τ) keep fullShare d) ∗ (∃ r, prngReg c r)) := by
  rw [inv_castSucc]
  by_cases hz : t.val = 0
  · rw [inv_zero m c _ _ hz, launched_eq]
  · rw [inv_pos m c _ _ hz]
    iintro ⟨HS, Hg⟩
    isplitl [HS]
    · iexists _; iexact HS
    iexact Hg

set_option maxHeartbeats 1000000 in
theorem body_even (c : Dev nD) (t : Fin cfg0.N) (h : t.val % 2 = 0) :
    bodyPre m c t ⊢ wp frame (wpE (defs₀ (F := F)) Variants.none c none) Set.univ (bodyAt0 t) (fun _ => bodyPost m c t) := by
  unfold bodyPre bodyPost bodyAt0
  simp only [before0, before1, before2]
  rw [leaves0, leaves1, leaves2, leaves3, leaves4, leaves5, after4,
    show (dats m 0 c).owesAt () t.succ = (dats m 0 c).owesAt () t.castSucc from rfl,
    show (dats m 0 c).Φ t.succ = inv m c (t.val + 1) t.isLt from rfl, inv_succ,
    show (⟨t.val, t.isLt⟩ : Fin cfg0.N) = t from rfl, even_self t h, tokens_even m c t h]
  iintro ⟨HΦ, Ho, ⟨%d0, H0⟩, ⟨%d1, H1⟩, ⟨%d2, H2⟩, ⟨%d3, H3⟩, ⟨%d4, H4⟩, ⟨%d5, H5⟩⟩
  ihave HΦ' := (inv_any m c t) $$ HΦ
  icases HΦ' with ⟨HS, Hg⟩
  iapply (run_even c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ _ ((first_iff t).mpr h) ((second_iff t).mpr h) (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS]; · iexact HS
  iintro ⟨H0, H1, H2, H3, H4, H5, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1000000 in
theorem body_odd (c : Dev nD) (t : Fin cfg0.N) (h : ¬t.val % 2 = 0) :
    bodyPre m c t ⊢ wp frame (wpE (defs₀ (F := F)) Variants.none c none) Set.univ (bodyAt0 t) (fun _ => bodyPost m c t) := by
  have hz : t.val ≠ 0 := fun e => h (by rw [e])
  have ht : t.val - 1 < cfg0.N := Nat.lt_of_le_of_lt (Nat.sub_le _ _) t.isLt
  unfold bodyPre bodyPost bodyAt0
  simp only [before0, before1, before2, before4_odd m c t h]
  rw [leaves0, leaves1, leaves2, leaves3, leaves4, leaves5,
    show (dats m 0 c).owesAt () t.succ = (dats m 0 c).owesAt () t.castSucc from rfl,
    show (dats m 0 c).Φ t.succ = inv m c (t.val + 1) t.isLt from rfl, inv_succ,
    inv_castSucc, inv_pos m c _ _ hz,
    show tokens m c ⟨t.val - 1, by omega⟩ = tokens m c t from (tokens_odd m c t h ht).symm]
  iintro ⟨⟨HS, Hg⟩, Ho, ⟨%d0, H0⟩, ⟨%d1, H1⟩, ⟨%d2, H2⟩, ⟨%d3, H3⟩, ⟨%d4, H4⟩, ⟨%d5, H5⟩⟩
  iapply (run_odd c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ _ (fun e => h ((first_iff t).mp e)) (fun e => h ((second_iff t).mp e)) (iblk m c 0 t) (iblk m c 1 t) (iblk m c 2 t) ((dats m 0 c).after 4 t) (tokens m c t) Set.univ _)
  isplitl [H0]; · iexact H0
  isplitl [H1]; · iexact H1
  isplitl [H2]; · iexact H2
  isplitl [H3]; · iexists _; iexact H3
  isplitl [H4]; · iexact H4
  isplitl [H5]; · iexists _; iexact H5
  isplitl [HS]; · iexact HS
  iintro ⟨H0, H1, H2, H3, H4, H5, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

theorem body_at (c : Dev nD) (t : Fin cfg0.N) :
    bodyPre m c t ⊢ wp frame (wpE (defs₀ (F := F)) Variants.none c none) Set.univ (bodyAt0 t) (fun _ => bodyPost m c t) := by
  by_cases h : t.val % 2 = 0
  · exact body_even m c t h
  · exact body_odd m c t h

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (body_at m c t) rfl .rfl fun _ => .rfl

theorem inv_in (c : Dev nD) : Pipeline.ΦA spec0 c ⊢ (dats m 0 c).Φ 0 := by
  rw [show (dats m 0 c).Φ 0 = inv m c 0 (Nat.zero_le _) from rfl, inv_zero m c 0 _ rfl]

theorem inv_out (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    inv_pos m c _ _ (by rw [Fin.val_last]; have : cfg0.N = 32 := N_0; omega), launched_eq]
  iintro ⟨HS, Hg⟩
  isplitl [HS]
  · iexists _; iexact HS
  iexact Hg

/-! ## The run -/

set_option backward.isDefEq.respectTransparency.types false in
/-- Every execution ends with the arrays at what the proof data say and every semaphore at zero. -/
theorem run_sems : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := inv_in m) (hout := inv_out m)

theorem run : θ_run defs (onTc (τ := τ) (main (F := F))) (s₀ m ρ) (Pipeline.FramePost cfgs (dats m) 0 (V m)) :=
  (θ_run defs _ _).mono (fun _ h => h.1) (run_sems m ρ)

/-- Every execution ends with the arguments as they were and every semaphore at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_sems m ρ))

/-- Every execution ends with the three results at the arrays the proof data name. -/
theorem run_blocks : θ_run defs (onTc (τ := τ) (main (F := F))) ⟨m, fun _ => 0, ρ⟩ fun r => ∀ c : Dev nD,
      r.2.mem ((c : Thread nD τ).loc main_v8_0) = (dats m 0 c).arrAt 3 cfg0.N
      ∧ r.2.mem ((c : Thread nD τ).loc main_v8_1) = (dats m 0 c).arrAt 4 cfg0.N
      ∧ r.2.mem ((c : Thread nD τ).loc main_v8_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3, (h c).1 4, (h c).1 5,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩) (run m ρ)

end Cert.Layer.Proj

end
-- ==== Proof.ProjRows.lean ====
/-
  The call that normalises the tokens and projects them: at every grid point, 1024 normalised tokens against one half of the
  padded projection; and the three arrays these points leave.
-/
module

public import proofs.«01_k».proof.Proof.Rows
public import proofs.«01_k».proof.Proof.ProjFrame
public import Idealize.ShloMosaic.Lib.Tactic
public import Idealize.ShloMosaic.Lib.Pipeline.ValueKit
public import Idealize.ShloMosaic.Lib.Pipeline.ReadBack

@[expose] public section

set_option maxRecDepth 16384

noncomputable section

namespace Cert.Layer.Proj

open Cert.Layer Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The projection's columns, with 248 columns of zeros between the first mixer's and the second's. -/
def padded (w : Fin 1024 → Fin 3336 → EReal) (k : Fin 1024) (q : Fin 3584) : EReal :=
  if h : q.val < 1544 then w k ⟨q.val, by omega⟩ else if h' : q.val < 1792 then 0 else w k ⟨q.val - 248, by omega⟩

/-- A normalised token against one of these columns. -/
def proj (x : Fin 8 → Fin 2048 → Fin 1024 → EReal) (g : Fin 1024 → EReal) (w : Fin 1024 → Fin 3336 → EReal)
    (n : Fin 16384) (q : Fin 3584) : EReal :=
  ∑ k, rms (x ⟨n.val / 2048, by omega⟩ ⟨n.val % 2048, by omega⟩) g k * padded w k q

/-- The tokens. -/
def tok (b : Fin 8) (l : Fin 2048) (d : Fin 1024) : EReal := m ((c : Thread nD τ).loc main_arg0) (ix3 b l d)
/-- The norm's scale. -/
def gain (d : Fin 1024) : EReal := m ((c : Thread nD τ).loc main_arg1) (ix1 d)
/-- The projection. -/
def win (k : Fin 1024) (q : Fin 3336) : EReal := m ((c : Thread nD τ).loc main_arg2) (ix2 k q)

/-- The block indices, decided over the grid. -/
theorem idx : ∀ t : Fin cfg0.N,
    win0_0.index t = ![t.val / 2, 0] ∧ win0_1.index t = ![0, 0] ∧ win0_2.index t = ![t.val % 2, 0]
      ∧ win0_3.index t = ![t.val / 2, t.val % 2] ∧ win0_4.index t = ![t.val / 2, 0] ∧ win0_5.index t = ![t.val / 2, 0, t.val % 2] := by
  decide +kernel

theorem lt32 (t : Fin cfg0.N) : t.val < 32 := lt_of_lt_of_eq t.isLt N_0

theorem read0 (t : Fin cfg0.N) (r d : Fin 1024) :
    iblk m c 0 t (ix2 r d) = m ((c : Thread nD τ).loc main_arg0) (ix3 (⟨(1024 * (t.val / 2) + r.val) / 2048, by have := lt32 t; omega⟩ : Fin 8) (⟨(1024 * (t.val / 2) + r.val) % 2048, by omega⟩ : Fin 2048) d) := by
  have ht := lt32 t
  blk_point [iblk, V, idx t]

theorem read1 (t : Fin cfg0.N) (d : Fin 1024) : iblk m c 1 t (ix2 0 d) = m ((c : Thread nD τ).loc main_arg1) (ix1 d) := by
  have ht := lt32 t
  blk_point [iblk, V, idx t]

/-- The padded projection's rows, as the region finds them. -/
theorem weights_eq : (V m c main_v5 : S3584x1024.Idx → EReal)
    = truncf (F := Ideal) .bf16 (concatenate S3584x1024 0 [⟨S1544x1024, extractStridedSlice S1544x1024 ![0, 0] (transpose S3336x1024 [1, 0] (m ((c : Thread nD τ).loc main_arg2) : FVec Ideal S1024x3336 .f32) transposes_S1024x3336_S3336x1024_1_0) slices_S3336x1024_S1544x1024_0_0⟩,
        ⟨S248x1024, broadcastInDim S248x1024 ![] bcast_S_S248x1024 (constant (F := Ideal) S_ .f32 0x00000000#32)⟩,
        ⟨S1792x1024, extractStridedSlice S1792x1024 ![1544, 0] (transpose S3336x1024 [1, 0] (m ((c : Thread nD τ).loc main_arg2) : FVec Ideal S1024x3336 .f32) transposes_S1024x3336_S3336x1024_1_0) slices_S3336x1024_S1792x1024_1544_0⟩] concatenates_S1544x1024_S248x1024_S1792x1024_S3584x1024_d0) bitsLt_bf16_f32 := by
  unfold V hostOps0
  after_results <;> rfl

theorem weights_apply (q : Fin 3584) (k : Fin 1024) : V m c main_v5 (ix2 q k) = padded (win m c) k q := by
  have hq := q.isLt
  rw [weights_eq]
  unfold padded win
  split_ifs with h h'
  · pointwise
    rw [dif_pos h]
  · pointwise
    rw [dif_neg h, dif_pos (by omega)]
  · pointwise
    rw [dif_neg h, dif_neg (by omega)]
    congr 2
    apply Fin.ext
    show 1544 + (q.val - 1544 - 248) = q.val - 248
    omega

theorem read2 (t : Fin cfg0.N) (r : Fin 1792) (k : Fin 1024) (q : Fin 3584) (hq : q.val = 1792 * (t.val % 2) + r.val) :
    iblk m c 2 t (ix2 r k) = padded (win m c) k q := by
  obtain ⟨-, -, e, -⟩ := idx t
  rw [← weights_apply]
  show V m c main_v5 (((cfg0.win 2).blk t).view.emb (ix2 r k)) = _
  congr 1
  funext a; apply Fin.ext
  match a with
  | ⟨0, _⟩ => show win0_2.index t (0 : Fin 2) * 1792 + 1 * r.val = q.val; rw [e, hq]; simp [Nat.mul_comm]
  | ⟨1, _⟩ => show win0_2.index t (1 : Fin 2) * 1024 + 1 * k.val = k.val; rw [e]; simp

/-- The normalised block, at an index. -/
theorem norm_apply (x : Vec Ideal S1024x1024 .f32) (g : Vec Ideal S1x1024 .f32) (r k : Fin 1024) :
    k0_pay1 x g (ix2 r k) = rms (fun e => x (ix2 r e)) (fun e => g (ix2 0 e)) k := by
  unfold rms
  pointwise [k0_pay1]

theorem tokens_apply (t : Fin cfg0.N) (r : Fin 1024) (n : Fin 16384) (hn : n.val = 1024 * (t.val / 2) + r.val) (k : Fin 1024) :
    tokens m c t (ix2 r k) = rms (tok m c ⟨n.val / 2048, by omega⟩ ⟨n.val % 2048, by omega⟩) (gain m c) k := by
  have he : (even t).val / 2 = t.val / 2 := by show (t.val - t.val % 2) / 2 = _; omega
  unfold tokens
  rw [norm_apply]
  have e0 : (fun e => iblk m c 0 (even t) (ix2 r e)) = tok m c ⟨n.val / 2048, by omega⟩ ⟨n.val % 2048, by omega⟩ := by
    funext e
    rw [read0]
    unfold tok
    congr 2 <;> (apply Fin.ext; show _ = _; simp only [hn, he])
  have e1 : (fun e => iblk m c 1 (even t) (ix2 0 e)) = gain m c := funext fun e => read1 m c _ e
  rw [e0, e1]

theorem product_apply (h : Vec Ideal S1024x1024 .bf16) (w : Vec Ideal S1792x1024 .bf16) (r : Fin 1024) (d : Fin 1792) :
    k0_pay2 h w (ix2 r d) = ∑ k, h (ix2 r k) * w (ix2 d k) := by
  pointwise [k0_pay2]

/-- A point's product is its tokens' projection. -/
theorem product_point (t t' : Fin cfg0.N) (ht : t'.val / 2 = t.val / 2) (r : Fin 1024) (d : Fin 1792) (n : Fin 16384) (hn : n.val = 1024 * (t.val / 2) + r.val)
    (q : Fin 3584) (hq : q.val = 1792 * (t'.val % 2) + d.val) :
    k0_pay2 (tokens m c t) (iblk m c 2 t') (ix2 r d) = proj (tok m c) (gain m c) (win m c) n q := by
  rw [product_apply]
  unfold proj
  refine Finset.sum_congr rfl fun k _ => ?_
  rw [tokens_apply m c t r n hn, read2 m c t' d k q hq]

theorem all_apply (h : Vec Ideal S1024x1024 .bf16) (w : Vec Ideal S1792x1024 .bf16) (r : Fin 1024) (d : Fin 1792) :
    k0_pay3 h w (ix2 r d) = k0_pay2 h w (ix2 r d) := by
  pointwise [k0_pay3]

theorem steps_apply (h : Vec Ideal S1024x1024 .bf16) (w : Vec Ideal S1792x1024 .bf16) (r : Fin 1024) (d : Fin 128) :
    k0_pay5 h w (ix2 r d) = k0_pay2 h w (ix2 r (⟨1536 + d.val, by omega⟩ : Fin 1792)) := by
  pointwise [k0_pay5]

theorem last_apply (h : Vec Ideal S1024x1024 .bf16) (w : Vec Ideal S1792x1024 .bf16) (z : Fin 1) (r : Fin 8) (d : Fin 1792) :
    k0_pay4 h w (ix3 z r d) = k0_pay2 h w (ix2 (⟨1016 + r.val, by omega⟩ : Fin 1024) d) := by
  pointwise [k0_pay4]

/-- All columns, as the call leaves them. -/
theorem final3 : (dats m 0 c).arrAt 3 cfg0.N = fun i : S16384x3584.Idx => proj (tok m c) (gain m c) (win m c) (i 0) (i 1) := by
  refine (dats m 0 c).arrAt_eq_of_covers 3 _ (by decide +kernel) fun t hf y => ?_
  have e := idx t
  blk_simp
  rw [after3]
  idx_vars y
  rw [all_apply]
  refine product_point m c t t rfl y0 y1 (((cfg0.win 3).blk t).view.emb (ix2 y0 y1) 0) ?_ (((cfg0.win 3).blk t).view.emb (ix2 y0 y1) 1) ?_
  · show win0_3.index t (0 : Fin 2) * 1024 + 1 * y0.val = _; simp [e, Nat.mul_comm]
  · show win0_3.index t (1 : Fin 2) * 1792 + 1 * y1.val = _; simp [e, Nat.mul_comm]

/-- The step sizes' columns. -/
theorem final4 : (dats m 0 c).arrAt 4 cfg0.N
    = fun i : S16384x128.Idx => proj (tok m c) (gain m c) (win m c) (i 0) ⟨1536 + (i 1).val, by have h1 : (i 1).val < 128 := (i 1).isLt; omega⟩ := by
  refine (dats m 0 c).arrAt_eq_of_covers 4 _ (by decide +kernel) fun t hf y => ?_
  have e := idx t
  blk_simp
  rw [after4]
  idx_vars y
  rw [steps_apply]
  have e1 : win0_4.index t (1 : Fin 2) * 128 + y1.val = y1.val := by simp [e]
  have h2 : (even t).val % 2 = 0 := by show (t.val - t.val % 2) % 2 = 0; omega
  refine product_point m c t (even t) (by show (t.val - t.val % 2) / 2 = _; omega) y0 _ (((cfg0.win 4).blk t).view.emb (ix2 y0 y1) 0) ?_ _ ?_
  · show win0_4.index t (0 : Fin 2) * 1024 + 1 * y0.val = _; simp [e, Nat.mul_comm]
  · rw [h2]
    show 1536 + (win0_4.index t (1 : Fin 2) * 128 + y1.val) = 1792 * 0 + (1536 + y1.val)
    rw [e1]; omega

/-- The last eight rows of every 1024. -/
theorem final5 : (dats m 0 c).arrAt 5 cfg0.N
    = fun i : S16x8x3584.Idx => proj (tok m c) (gain m c) (win m c) ⟨1024 * (i 0).val + 1016 + (i 1).val, by have h0 : (i 0).val < 16 := (i 0).isLt; have h1 : (i 1).val < 8 := (i 1).isLt; omega⟩ (i 2) := by
  refine (dats m 0 c).arrAt_eq_of_covers 5 _ (by decide +kernel) fun t hf y => ?_
  have e := idx t
  blk_simp
  rw [after5]
  idx_vars y
  rw [last_apply]
  have e0 : win0_5.index t (0 : Fin 3) = t.val / 2 := by simp [e]
  have e1 : win0_5.index t (1 : Fin 3) * 8 + y1.val = y1.val := by simp [e]
  refine product_point m c t t rfl _ y2 _ ?_ (((cfg0.win 5).blk t).view.emb (ix3 y0 y1 y2) 2) ?_
  · show 1024 * (win0_5.index t (0 : Fin 3)) + 1016 + (win0_5.index t (1 : Fin 3) * 8 + y1.val) = 1024 * (t.val / 2) + (1016 + y1.val)
    rw [e0, e1]; omega
  · show win0_5.index t (2 : Fin 3) * 1792 + 1 * y2.val = _; simp [e, Nat.mul_comm]

end Cert.Layer.Proj

end
-- ==== Proof.ProjClaims.lean ====
/-
  The claims about the call that normalises the tokens and projects them: the three frames, and the kernel's three results
  equal to the reference's.
-/
module

public import proofs.«01_k».proof.Defs
public import proofs.«01_k».proof.Proof.Gen.Kernel2
public import proofs.«01_k».proof.Proof.ProjRows
public import proofs.«01_k».proof.Proof.Gen.Reference2Ideal.Run

@[expose] public section

set_option maxRecDepth 16384

noncomputable section

namespace Cert.Layer.Proj

open Idealize.ShloMosaic Idealize.ShloMosaic.TcCoe Idealize.ShloMosaic.StableHlo Idealize.SL.Sem

/-- The kernel and its idealisation replace nothing, so they are the same program, body by body -/
theorem bodies_eq : @Cert.Kernel2.defs₀ Bits _ _ = @Cert.Kernel2Ideal.defs₀ Bits _ _ := by
  unfold Cert.Kernel2.defs₀ Cert.Kernel2Ideal.defs₀
  congr 1
  funext l x
  match l, x with
  | ⟨0, _⟩, (t, s) => rfl
  | ⟨_ + 1, h⟩, _ => exact absurd h (Nat.not_lt.2 (Nat.le_add_left _ _))

/-- and pipeline by pipeline. -/
theorem defs_eq : @Cert.Kernel2.defs Bits _ _ = @Cert.Kernel2Ideal.defs Bits _ _ := by
  unfold Cert.Kernel2.defs Cert.Kernel2Ideal.defs
  rw [bodies_eq]
  rfl

theorem frame_kernel : Cert.quiescent_Kernel2 := fun m ρ _ => by
  rw [defs_eq]
  exact kept (F := Bits) m ρ

theorem frame_ideal : Cert.quiescent_Kernel2Ideal := fun m ρ _ => kept m ρ

theorem frame_reference : Cert.quiescent_Reference2Ideal := fun m ρ _ =>
  (θ_run Cert.Reference2Ideal.defs _ _).mono
    (fun r h => ⟨fun c => (h c).2.2.2, sem_eq_zero_of_no_sems (by decide) r.2⟩) (Cert.Reference2Ideal.Value.run (F := Ideal) m ρ)

section
open Cert.Reference2Ideal Cert.Reference2Ideal.Gen

/-- The reference's projection of the normalised tokens, -/
def refProj (x : FVec Ideal S8x2048x1024 .f32) (g : FVec Ideal S1024 .f32) (w : FVec Ideal S1024x3336 .f32) : FVec Ideal S8x2048x3336 .f32 :=
  Host.dotGeneral dot_S8x2048x1024_S1024x3336_S8x2048x3336_2_0_01_1_n_n none (mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))) w

/-- and the same with the columns of zeros. -/
def refAll (x : FVec Ideal S8x2048x1024 .f32) (g : FVec Ideal S1024 .f32) (w : FVec Ideal S1024x3336 .f32) : FVec Ideal S16384x3584 .f32 :=
  concatenate S16384x3584 1 [⟨S16384x1544, extractStridedSlice S16384x1544 ![0, 0] (shapeCast _ (refProj x g w) shapeCasts_S8x2048x3336_S16384x3336) slices_S16384x3336_S16384x1544_0_0⟩, ⟨S16384x248, broadcastInDim S16384x248 ![] bcast_S_S16384x248 (constant (F := Ideal) S_ .f32 0x00000000#32)⟩, ⟨S16384x1792, extractStridedSlice S16384x1792 ![0, 1544] (shapeCast _ (refProj x g w) shapeCasts_S8x2048x3336_S16384x3336) slices_S16384x3336_S16384x1792_0_1544⟩] concatenates_S16384x1544_S16384x248_S16384x1792_S16384x3584_d1

/-- At an index it is a token's projection. -/
theorem refProj_apply (x : FVec Ideal S8x2048x1024 .f32) (g : FVec Ideal S1024 .f32) (w : FVec Ideal S1024x3336 .f32) (b : Fin 8) (l : Fin 2048) (d : Fin 3336) :
    refProj x g w (ix3 b l d) = ∑ k, rms (fun e => x (ix3 b l e)) (fun e => g (ix1 e)) k * w (ix2 k d) := by
  unfold refProj rms
  pointwise

/-- The padding's columns are sums of zeros. -/
theorem refAll_apply (x : FVec Ideal S8x2048x1024 .f32) (g : FVec Ideal S1024 .f32) (w : FVec Ideal S1024x3336 .f32) (n : Fin 16384) (q : Fin 3584) :
    refAll x g w (ix2 n q) = proj (fun b l e => x (ix3 b l e)) (fun e => g (ix1 e)) (fun k d => w (ix2 k d)) n q := by
  have hn := n.isLt
  have hq := q.isLt
  unfold refAll proj padded
  split_ifs with h h'
  · pointwise [refProj_apply]
    rw [dif_pos h]
  · pointwise [refProj_apply]
    rw [dif_neg h, dif_pos (by omega)]
    simp
  · pointwise [refProj_apply]
    rw [dif_neg h, dif_neg (by omega)]
    have e : (⟨1544 + (q.val - 1544 - 248), by omega⟩ : Fin 3336) = ⟨q.val - 248, by omega⟩ := Fin.ext (by show 1544 + (q.val - 1544 - 248) = q.val - 248; omega)
    rw [e]

theorem ref3 (x : FVec Ideal S8x2048x1024 .f32) (g : FVec Ideal S1024 .f32) (w : FVec Ideal S1024x3336 .f32) :
    truncf (F := Ideal) .bf16 (refAll x g w) bitsLt_bf16_f32
      = fun i : S16384x3584.Idx => proj (fun b l e => x (ix3 b l e)) (fun e => g (ix1 e)) (fun k d => w (ix2 k d)) (i 0) (i 1) := by
  funext i
  idx_vars i
  pointwise [refAll_apply]

theorem ref4 (x : FVec Ideal S8x2048x1024 .f32) (g : FVec Ideal S1024 .f32) (w : FVec Ideal S1024x3336 .f32) :
    extractStridedSlice S16384x128 ![0, 1536] (refAll x g w) slices_S16384x3584_S16384x128_0_1536
      = fun i : S16384x128.Idx => proj (fun b l e => x (ix3 b l e)) (fun e => g (ix1 e)) (fun k d => w (ix2 k d)) (i 0) ⟨1536 + (i 1).val, by have h1 : (i 1).val < 128 := (i 1).isLt; omega⟩ := by
  funext i
  idx_vars i
  pointwise [refAll_apply]

/-- The last eight rows of every 1024, read off the whole. -/
theorem last_rows (u : FVec Ideal S16384x3584 .f32) (a : Fin 16) (b : Fin 8) (q : Fin 3584) :
    extractStridedSlice S16x8x3584 ![0, 1016, 0] (shapeCast _ u shapeCasts_S16384x3584_S16x1024x3584) slices_S16x1024x3584_S16x8x3584_0_1016_0 (ix3 a b q)
      = u (ix2 (⟨1024 * a.val + 1016 + b.val, by omega⟩ : Fin 16384) q) := by
  pointwise
  have e : a.val * 1024 + (1016 + b.val) = 1024 * a.val + 1016 + b.val := by omega
  simp only [e]

theorem ref5 (x : FVec Ideal S8x2048x1024 .f32) (g : FVec Ideal S1024 .f32) (w : FVec Ideal S1024x3336 .f32) :
    extractStridedSlice S16x8x3584 ![0, 1016, 0] (shapeCast _ (refAll x g w) shapeCasts_S16384x3584_S16x1024x3584) slices_S16x1024x3584_S16x8x3584_0_1016_0
      = fun i : S16x8x3584.Idx => proj (fun b l e => x (ix3 b l e)) (fun e => g (ix1 e)) (fun k d => w (ix2 k d))
          ⟨1024 * (i 0).val + 1016 + (i 1).val, by have h0 : (i 0).val < 16 := (i 0).isLt; have h1 : (i 1).val < 8 := (i 1).isLt; omega⟩ (i 2) := by
  funext i
  idx_vars i
  exact (last_rows _ _ _ _).trans (refAll_apply _ _ _ _ _)
end

theorem algebraic : Cert.algebraic_Kernel2Ideal_Reference2Ideal := by
  intro m ρ m' ρ' _ hagree
  refine ⟨fun c => (dats m 0 c).arrAt 3 Cert.Kernel2Ideal.cfg0.N, fun c => (dats m 0 c).arrAt 4 Cert.Kernel2Ideal.cfg0.N,
    fun c => (dats m 0 c).arrAt 5 Cert.Kernel2Ideal.cfg0.N, run_blocks (F := Ideal) m ρ, ?_⟩
  refine (θ_run Cert.Reference2Ideal.defs _ _).mono (fun r h c => ?_) (Cert.Reference2Ideal.Value.run (F := Ideal) m' ρ')
  obtain ⟨h0, h1, h2, hargs⟩ := h c
  obtain ⟨a0, a1, a2⟩ := hagree c
  rw [a0, a1, a2] at h0 h1 h2
  exact ⟨h0.trans ((ref3 _ _ _).trans (final3 m c).symm), h1.trans ((ref4 _ _ _).trans (final4 m c).symm),
    h2.trans ((ref5 _ _ _).trans (final5 m c).symm), hargs⟩

end Cert.Layer.Proj

end
-- ==== Proof.MemRows.lean ====
/-
  The call that projects the memories: at every grid point, the keys and the values of 512 memory rows, each the normalised
  row against one half of the joined projection; and the four arrays these points leave.
-/
module

public import proofs.«01_k».proof.Proof.Rows
public import proofs.«01_k».proof.Proof.Gen.Kernel3Ideal.Value
public import Idealize.ShloMosaic.Lib.Tactic
public import Idealize.ShloMosaic.Lib.Pipeline.ValueKit
public import Idealize.ShloMosaic.Lib.Pipeline.ReadBack

@[expose] public section

set_option maxRecDepth 16384

noncomputable section

namespace Cert.Layer.Mem

open Cert.Layer Cert.Kernel3Ideal Cert.Kernel3Ideal.Gen Cert.Kernel3Ideal.Value Idealize.ShloMosaic Idealize.ShloMosaic.TcCoe Idealize.SL.Sem

variable (m : (ℓ : Loc nD τ sig) → Buf (Elt Ideal) ℓ) (c : Dev nD)

/-- A memory row's projection by `w`. -/
def proj (x : Fin 8 → Fin 256 → Fin 1024 → EReal) (g : Fin 1024 → EReal) (w : Fin 1024 → Fin 1024 → EReal)
    (n : Fin 2048) (d : Fin 1024) : EReal :=
  ∑ k, rms (x ⟨n.val / 256, by omega⟩ ⟨n.val % 256, by omega⟩) g k * w k d

/-- The memories. -/
def mem (b : Fin 8) (n : Fin 256) (d : Fin 1024) : EReal := m ((c : Thread nD τ).loc main_arg0) (ix3 b n d)
/-- The norm's scale. -/
def gain (d : Fin 1024) : EReal := m ((c : Thread nD τ).loc main_arg1) (ix1 d)
/-- The key projection. -/
def wk (k d : Fin 1024) : EReal := m ((c : Thread nD τ).loc main_arg2) (ix2 k d)
/-- The value projection. -/
def wv (k d : Fin 1024) : EReal := m ((c : Thread nD τ).loc main_arg3) (ix2 k d)

/-- The block indices of the three input windows, decided over the grid. -/
theorem idx : ∀ t : Fin cfg0.N,
    win0_0.index t = ![t.val, 0] ∧ win0_1.index t = ![0, 0] ∧ win0_2.index t = ![0, 0]
      ∧ win0_3.index t = ![t.val, 0] ∧ win0_4.index t = ![t.val, 0]
      ∧ win0_5.index t = ![t.val, 0, 0] ∧ win0_6.index t = ![t.val, 0, 0] := by
  decide +kernel

theorem lt4 (t : Fin cfg0.N) : t.val < 4 := lt_of_lt_of_eq t.isLt N_0

theorem read0 (t : Fin cfg0.N) (r : Fin 512) (d : Fin 1024) :
    iblk m c 0 t (ix2 r d) = m ((c : Thread nD τ).loc main_arg0) (ix3 (⟨(512 * t.val + r.val) / 256, by have := lt4 t; omega⟩ : Fin 8) (⟨(512 * t.val + r.val) % 256, by omega⟩ : Fin 256) d) := by
  have ht := lt4 t
  blk_point [iblk, V, idx t]

theorem read1 (t : Fin cfg0.N) (d : Fin 1024) :
    iblk m c 1 t (ix2 0 d) = m ((c : Thread nD τ).loc main_arg1) (ix1 d) := by
  have ht := lt4 t
  blk_point [iblk, V, idx t]

/-- The joined projection, as the region finds it. -/
theorem joined : (V m c main_v1 : S1024x2048.Idx → EReal)
    = truncf (F := Ideal) .bf16 (concatenate S1024x2048 1 [⟨S1024x1024, (m ((c : Thread nD τ).loc main_arg2) : FVec Ideal S1024x1024 .f32)⟩,
        ⟨S1024x1024, (m ((c : Thread nD τ).loc main_arg3) : FVec Ideal S1024x1024 .f32)⟩] concatenates_S1024x1024_S1024x1024_S1024x2048_d1) bitsLt_bf16_f32 := by
  unfold V hostOps0
  after_results <;> rfl

theorem emb2 (t : Fin cfg0.N) (j : S1024x2048.Idx) : ((cfg0.win 2).blk t).view.emb j = j := by
  obtain ⟨-, -, e, -⟩ := idx t
  funext a; apply Fin.ext
  match a with
  | ⟨0, _⟩ => show win0_2.index t (0 : Fin 2) * 1024 + 1 * (j 0).val = (j 0).val; rw [e]; simp
  | ⟨1, _⟩ => show win0_2.index t (1 : Fin 2) * 2048 + 1 * (j 1).val = (j 1).val; rw [e]; simp

theorem read2 (t : Fin cfg0.N) (k : Fin 1024) (d : Fin 2048) : iblk m c 2 t (ix2 k d) = V m c main_v1 (ix2 k d) := by
  show V m c main_v1 (((cfg0.win 2).blk t).view.emb (ix2 k d)) = _
  rw [emb2]

/-- The joined projection's left half. -/
theorem read2k (t : Fin cfg0.N) (k d : Fin 1024) :
    iblk m c 2 t (ix2 k (⟨d.val, by omega⟩ : Fin 2048)) = m ((c : Thread nD τ).loc main_arg2) (ix2 k d) := by
  rw [read2, joined]
  pointwise

/-- The joined projection's right half. -/
theorem read2v (t : Fin cfg0.N) (k d : Fin 1024) :
    iblk m c 2 t (ix2 k (⟨1024 + d.val, by omega⟩ : Fin 2048)) = m ((c : Thread nD τ).loc main_arg3) (ix2 k d) := by
  rw [read2, joined]
  pointwise

/-- What the body stores, at an index of the block. -/
theorem keys_apply (x : Vec Ideal S512x1024 .f32) (g : Vec Ideal S1x1024 .f32) (w : Vec Ideal S1024x2048 .bf16) (r : Fin 512) (d : Fin 1024) :
    out0_3 x g w (ix2 r d) = ∑ k, rms (fun e => x (ix2 r e)) (fun e => g (ix2 0 e)) k * w (ix2 k (⟨d.val, by omega⟩ : Fin 2048)) := by
  unfold rms
  frame_out
  pointwise [k0_pay8, k0_pay7]

theorem vals_apply (x : Vec Ideal S512x1024 .f32) (g : Vec Ideal S1x1024 .f32) (w : Vec Ideal S1024x2048 .bf16) (r : Fin 512) (d : Fin 1024) :
    out0_4 x g w (ix2 r d) = ∑ k, rms (fun e => x (ix2 r e)) (fun e => g (ix2 0 e)) k * w (ix2 k (⟨1024 + d.val, by omega⟩ : Fin 2048)) := by
  unfold rms
  frame_out
  pointwise [k0_pay9, k0_pay7]

theorem keys4_apply (x : Vec Ideal S512x1024 .f32) (g : Vec Ideal S1x1024 .f32) (w : Vec Ideal S1024x2048 .bf16) (r : Fin 512) (h : Fin 4) (d : Fin 256) :
    out0_5 x g w (ix3 r h d) = out0_3 x g w (ix2 r (⟨h.val * 256 + d.val, by omega⟩ : Fin 1024)) := by
  have e := canon5_eq (View.ld x r0_0) (View.ld g r0_1) (View.ld w r0_2) (ix3 r h d)
  unfold out0_5 k0_pay12
  refine e.trans ?_
  unfold out0_3
  frame_out
  rfl

theorem vals4_apply (x : Vec Ideal S512x1024 .f32) (g : Vec Ideal S1x1024 .f32) (w : Vec Ideal S1024x2048 .bf16) (r : Fin 512) (h : Fin 4) (d : Fin 256) :
    out0_6 x g w (ix3 r h d) = out0_4 x g w (ix2 r (⟨h.val * 256 + d.val, by omega⟩ : Fin 1024)) := by
  have e := canon6_eq (View.ld x r0_0) (View.ld g r0_1) (View.ld w r0_3) (ix3 r h d)
  unfold out0_6 k0_pay13
  refine e.trans ?_
  unfold out0_4
  frame_out
  rfl

theorem row_eq (t : Fin cfg0.N) (r : Fin 512) (n : Fin 2048) (hn : n.val = 512 * t.val + r.val) (k : Fin 1024) :
    rms (fun e => iblk m c 0 t (ix2 r e)) (fun e => iblk m c 1 t (ix2 0 e)) k
      = rms (mem m c ⟨n.val / 256, by omega⟩ ⟨n.val % 256, by omega⟩) (gain m c) k := by
  have hr := r.isLt
  have e0 : (fun e => iblk m c 0 t (ix2 r e)) = mem m c ⟨n.val / 256, by omega⟩ ⟨n.val % 256, by omega⟩ := by
    funext e
    rw [read0]
    unfold mem
    congr 2 <;> (apply Fin.ext; show _ = _; simp only [hn])
  have e1 : (fun e => iblk m c 1 t (ix2 0 e)) = gain m c := funext fun e => read1 m c t e
  rw [e0, e1]

/-- A point's keys are its rows' projections. -/
theorem keys_point (t : Fin cfg0.N) (r : Fin 512) (n : Fin 2048) (hn : n.val = 512 * t.val + r.val) (d : Fin 1024) :
    out0_3 (iblk m c 0 t) (iblk m c 1 t) (iblk m c 2 t) (ix2 r d) = proj (mem m c) (gain m c) (wk m c) n d := by
  rw [keys_apply]
  unfold proj
  refine Finset.sum_congr rfl fun k _ => ?_
  rw [row_eq m c t r n hn, read2k]; rfl

theorem vals_point (t : Fin cfg0.N) (r : Fin 512) (n : Fin 2048) (hn : n.val = 512 * t.val + r.val) (d : Fin 1024) :
    out0_4 (iblk m c 0 t) (iblk m c 1 t) (iblk m c 2 t) (ix2 r d) = proj (mem m c) (gain m c) (wv m c) n d := by
  rw [vals_apply]
  unfold proj
  refine Finset.sum_congr rfl fun k _ => ?_
  rw [row_eq m c t r n hn, read2v]; rfl

/-- The keys the call leaves. -/
theorem final3 : (dats m 0 c).arrAt 3 cfg0.N = fun i : S2048x1024.Idx => proj (mem m c) (gain m c) (wk m c) (i 0) (i 1) := by
  refine (dats m 0 c).arrAt_eq_of_covers 3 _ (by decide +kernel) fun t hf y => ?_
  have e := idx t
  blk_simp
  rw [after0_3]
  idx_vars y
  have e1 : ((cfg0.win 3).blk t).view.emb (ix2 y0 y1) 1 = y1 := by
    apply Fin.ext
    show win0_3.index t (1 : Fin 2) * 1024 + 1 * y1.val = y1.val; simp [e]
  refine (keys_point m c t y0 (((cfg0.win 3).blk t).view.emb (ix2 y0 y1) 0) ?_ y1).trans (congrArg _ e1.symm)
  show win0_3.index t (0 : Fin 2) * 512 + 1 * y0.val = _; simp [e, Nat.mul_comm]

/-- The values the call leaves. -/
theorem final4 : (dats m 0 c).arrAt 4 cfg0.N = fun i : S2048x1024.Idx => proj (mem m c) (gain m c) (wv m c) (i 0) (i 1) := by
  refine (dats m 0 c).arrAt_eq_of_covers 4 _ (by decide +kernel) fun t hf y => ?_
  have e := idx t
  blk_simp
  rw [after0_4]
  idx_vars y
  have e1 : ((cfg0.win 4).blk t).view.emb (ix2 y0 y1) 1 = y1 := by
    apply Fin.ext
    show win0_4.index t (1 : Fin 2) * 1024 + 1 * y1.val = y1.val; simp [e]
  refine (vals_point m c t y0 (((cfg0.win 4).blk t).view.emb (ix2 y0 y1) 0) ?_ y1).trans (congrArg _ e1.symm)
  show win0_4.index t (0 : Fin 2) * 512 + 1 * y0.val = _; simp [e, Nat.mul_comm]

/-- The keys again, head by head. -/
theorem final5 : (dats m 0 c).arrAt 5 cfg0.N
    = fun i : S2048x4x256.Idx => proj (mem m c) (gain m c) (wk m c) (i 0) ⟨(i 1).val * 256 + (i 2).val, by have h1 : (i 1).val < 4 := (i 1).isLt; have h2 : (i 2).val < 256 := (i 2).isLt; omega⟩ := by
  refine (dats m 0 c).arrAt_eq_of_covers 5 _ (by decide +kernel) fun t hf y => ?_
  have e := idx t
  blk_simp
  rw [after0_5]
  idx_vars y
  have e1 : win0_5.index t (1 : Fin 3) * 4 + y1.val = y1.val := by simp [e]
  have e2 : win0_5.index t (2 : Fin 3) * 256 + y2.val = y2.val := by simp [e]
  rw [keys4_apply]
  refine (keys_point m c t y0 (((cfg0.win 5).blk t).view.emb (ix3 y0 y1 y2) 0) ?_ _).trans (congrArg _ (Fin.ext ?_))
  · show win0_5.index t (0 : Fin 3) * 512 + 1 * y0.val = _; simp [e, Nat.mul_comm]
  · exact congrArg₂ (fun a b : ℕ => a * 256 + b) e1.symm e2.symm

/-- The values again, head by head. -/
theorem final6 : (dats m 0 c).arrAt 6 cfg0.N
    = fun i : S2048x4x256.Idx => proj (mem m c) (gain m c) (wv m c) (i 0) ⟨(i 1).val * 256 + (i 2).val, by have h1 : (i 1).val < 4 := (i 1).isLt; have h2 : (i 2).val < 256 := (i 2).isLt; omega⟩ := by
  refine (dats m 0 c).arrAt_eq_of_covers 6 _ (by decide +kernel) fun t hf y => ?_
  have e := idx t
  blk_simp
  rw [after0_6]
  idx_vars y
  have e1 : win0_6.index t (1 : Fin 3) * 4 + y1.val = y1.val := by simp [e]
  have e2 : win0_6.index t (2 : Fin 3) * 256 + y2.val = y2.val := by simp [e]
  rw [vals4_apply]
  refine (vals_point m c t y0 (((cfg0.win 6).blk t).view.emb (ix3 y0 y1 y2) 0) ?_ _).trans (congrArg _ (Fin.ext ?_))
  · show win0_6.index t (0 : Fin 3) * 512 + 1 * y0.val = _; simp [e, Nat.mul_comm]
  · exact congrArg₂ (fun a b : ℕ => a * 256 + b) e1.symm e2.symm

end Cert.Layer.Mem
-- ==== Proof.MemClaims.lean ====
/-
  The claims about the call that projects the memories: the three frames, and the kernel's four results equal to the
  reference's.
-/
module

public import proofs.«01_k».proof.Defs
public import proofs.«01_k».proof.Proof.Gen.Kernel3
public import proofs.«01_k».proof.Proof.Gen.Kernel3.Frame
public import proofs.«01_k».proof.Proof.MemRows
public import proofs.«01_k».proof.Proof.Gen.Reference3Ideal.Run

@[expose] public section

set_option maxRecDepth 16384

noncomputable section

namespace Cert.Layer.Mem

open Idealize.ShloMosaic Idealize.ShloMosaic.TcCoe Idealize.ShloMosaic.StableHlo Idealize.SL.Sem

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono
    (fun r h => ⟨fun c => (h c).2.2.2.2, sem_eq_zero_of_no_sems (by decide) r.2⟩) (Cert.Reference3Ideal.Value.run (F := Ideal) m ρ)

section
open Cert.Reference3Ideal Cert.Reference3Ideal.Gen

/-- The reference's projection of the normalised memories, before it is laid out as a result. -/
def refProj (x : FVec Ideal S8x256x1024 .f32) (g : FVec Ideal S1024 .f32) (w : FVec Ideal S1024x1024 .f32) : FVec Ideal S8x256x1024 .f32 :=
  Host.dotGeneral dot_S8x256x1024_S1024x1024_S8x256x1024_2_0_01_1_n_n none (mulf (mulf x (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf x x) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 g))) w

/-- At an index it is the row's projection. -/
theorem refProj_apply (x : FVec Ideal S8x256x1024 .f32) (g : FVec Ideal S1024 .f32) (w : FVec Ideal S1024x1024 .f32) (b : Fin 8) (l : Fin 256) (d : Fin 1024) :
    refProj x g w (ix3 b l d) = ∑ k, rms (fun e => x (ix3 b l e)) (fun e => g (ix1 e)) k * w (ix2 k d) := by
  unfold refProj rms
  pointwise

theorem refRows (x : FVec Ideal S8x256x1024 .f32) (g : FVec Ideal S1024 .f32) (w : FVec Ideal S1024x1024 .f32) :
    shapeCast _ (refProj x g w) shapeCasts_S8x256x1024_S2048x1024
      = fun i : S2048x1024.Idx => proj (fun b l e => x (ix3 b l e)) (fun e => g (ix1 e)) (fun k d => w (ix2 k d)) (i 0) (i 1) := by
  funext i
  idx_vars i
  pointwise [refProj_apply]
  rfl

theorem refHeads (x : FVec Ideal S8x256x1024 .f32) (g : FVec Ideal S1024 .f32) (w : FVec Ideal S1024x1024 .f32) :
    shapeCast _ (refProj x g w) shapeCasts_S8x256x1024_S2048x4x256
      = fun i : S2048x4x256.Idx => proj (fun b l e => x (ix3 b l e)) (fun e => g (ix1 e)) (fun k d => w (ix2 k d)) (i 0)
          ⟨(i 1).val * 256 + (i 2).val, by have h1 : (i 1).val < 4 := (i 1).isLt; have h2 : (i 2).val < 256 := (i 2).isLt; omega⟩ := by
  funext i
  idx_vars i
  pointwise [refProj_apply]
  rfl
end

theorem algebraic : Cert.algebraic_Kernel3Ideal_Reference3Ideal := by
  intro m ρ m' ρ' _ hagree
  refine ⟨fun c => (Cert.Kernel3Ideal.Gen.dats m 0 c).arrAt 3 Cert.Kernel3Ideal.cfg0.N, fun c => (Cert.Kernel3Ideal.Gen.dats m 0 c).arrAt 4 Cert.Kernel3Ideal.cfg0.N,
    fun c => (Cert.Kernel3Ideal.Gen.dats m 0 c).arrAt 5 Cert.Kernel3Ideal.cfg0.N, fun c => (Cert.Kernel3Ideal.Gen.dats m 0 c).arrAt 6 Cert.Kernel3Ideal.cfg0.N,
    Cert.Kernel3Ideal.Value.run_blocks (F := Ideal) m ρ, ?_⟩
  refine (θ_run Cert.Reference3Ideal.defs _ _).mono (fun r h c => ?_) (Cert.Reference3Ideal.Value.run (F := Ideal) m' ρ')
  obtain ⟨h0, h1, h2, h3, hargs⟩ := h c
  obtain ⟨a0, a1, a2, a3⟩ := hagree c
  rw [a0, a1, a2] at h0 h2
  rw [a0, a1, a3] at h1 h3
  exact ⟨h0.trans ((refRows _ _ _).trans (final3 m c).symm), h1.trans ((refRows _ _ _).trans (final4 m c).symm),
    h2.trans ((refHeads _ _ _).trans (final5 m c).symm), h3.trans ((refHeads _ _ _).trans (final6 m c).symm), hargs⟩

end Cert.Layer.Mem

end
-- ==== Proof.OutRows.lean ====
/-
  The call that projects the mixers' outputs of the sample batch: at its one grid point, the residual stream after the
  mixers and the attention's query, row by row; and the two arrays this point leaves.
-/
module

public import proofs.«01_k».proof.Proof.Rows
public import proofs.«01_k».proof.Proof.Gen.Kernel4Ideal.Value
public import Idealize.ShloMosaic.Lib.Tactic
public import Idealize.ShloMosaic.Lib.Pipeline.ValueKit
public import Idealize.ShloMosaic.Lib.Pipeline.ReadBack

@[expose] public section

set_option maxRecDepth 16384

noncomputable section

namespace Cert.Layer.Out

open Cert.Layer Cert.Kernel4Ideal Cert.Kernel4Ideal.Gen Cert.Kernel4Ideal.Value Idealize.ShloMosaic Idealize.ShloMosaic.TcCoe Idealize.SL.Sem

variable (m : (ℓ : Loc nD τ sig) → Buf (Elt Ideal) ℓ) (c : Dev nD)

/-- A row of the residual stream after the mixers. -/
def mixed (x : Fin 1024 → EReal) (ys yr : Fin 512 → EReal) (w : Fin 1024 → Fin 1024 → EReal) (d : Fin 1024) : EReal :=
  x d + (∑ k, ys k * w ⟨k.val, by omega⟩ d + ∑ k, yr k * w ⟨512 + k.val, by omega⟩ d)

/-- A row's query. -/
def query (x1 g : Fin 1024 → EReal) (w : Fin 1024 → Fin 1024 → EReal) (d : Fin 1024) : EReal := ∑ k, rms x1 g k * w k d

/-- Row `n` of the sample batch, which lies in sequence `n / 4`. -/
def rowOf (x : Fin 128 → Fin 4 → Fin 1024 → EReal) (n : Fin 512) : Fin 1024 → EReal := x ⟨n.val / 4, by omega⟩ ⟨n.val % 4, by omega⟩

/-- The residual stream after the mixers, from the arguments. -/
def stream (n : Fin 512) : Fin 1024 → EReal :=
  mixed (rowOf (fun b l e => m ((c : Thread nD τ).loc main_arg0) (ix3 b l e)) n)
    (fun k => m ((c : Thread nD τ).loc main_arg1) (ix2 n k)) (fun k => m ((c : Thread nD τ).loc main_arg2) (ix2 n k))
    (fun k d => m ((c : Thread nD τ).loc main_arg3) (ix2 k d))

/-- The queries, from the arguments. -/
def queries (n : Fin 512) : Fin 1024 → EReal :=
  query (stream m c n) (fun e => m ((c : Thread nD τ).loc main_arg4) (ix1 e)) (fun k d => m ((c : Thread nD τ).loc main_arg5) (ix2 k d))

/-- The block indices of the windows, decided over the grid. -/
theorem idx : ∀ t : Fin cfg0.N,
    win0_0.index t = ![t.val, 0] ∧ win0_1.index t = ![t.val, 0] ∧ win0_2.index t = ![t.val, 0]
      ∧ win0_3.index t = ![0, 0] ∧ win0_4.index t = ![0, 0] ∧ win0_5.index t = ![0, 0]
      ∧ win0_6.index t = ![t.val, 0] ∧ win0_7.index t = ![t.val, 0] := by
  decide +kernel

theorem zero (t : Fin cfg0.N) : t.val = 0 := by
  have h : t.val < 1 := lt_of_lt_of_eq t.isLt N_0
  omega

theorem read0 (t : Fin cfg0.N) (r : Fin 512) (d : Fin 1024) :
    iblk m c 0 t (ix2 r d) = m ((c : Thread nD τ).loc main_arg0) (ix3 (⟨r.val / 4, by omega⟩ : Fin 128) (⟨r.val % 4, by omega⟩ : Fin 4) d) := by
  have ht := zero t
  blk_point [iblk, V, idx t]

theorem read1 (t : Fin cfg0.N) (r k : Fin 512) : iblk m c 1 t (ix2 r k) = m ((c : Thread nD τ).loc main_arg1) (ix2 r k) := by
  have ht := zero t
  blk_point [iblk, V, idx t]

theorem read2 (t : Fin cfg0.N) (r k : Fin 512) : iblk m c 2 t (ix2 r k) = m ((c : Thread nD τ).loc main_arg2) (ix2 r k) := by
  have ht := zero t
  blk_point [iblk, V, idx t]

theorem read3 (t : Fin cfg0.N) (k d : Fin 1024) : iblk m c 3 t (ix2 k d) = m ((c : Thread nD τ).loc main_arg3) (ix2 k d) := by
  blk_point [iblk, V, idx t]

theorem read4 (t : Fin cfg0.N) (d : Fin 1024) : iblk m c 4 t (ix2 0 d) = m ((c : Thread nD τ).loc main_arg4) (ix1 d) := by
  blk_point [iblk, V, idx t]

theorem read5 (t : Fin cfg0.N) (k d : Fin 1024) : iblk m c 5 t (ix2 k d) = m ((c : Thread nD τ).loc main_arg5) (ix2 k d) := by
  blk_point [iblk, V, idx t]

section
variable (x : Vec Ideal S512x1024 .f32) (ys yr : Vec Ideal S512x512 .bf16) (w : Vec Ideal S1024x1024 .bf16)
  (g : Vec Ideal S1x1024 .f32) (wq : Vec Ideal S1024x1024 .bf16)

/-- What the body stores first, at an index of the block. -/
theorem stream_apply (r : Fin 512) (d : Fin 1024) :
    out0_6 x ys yr w g wq (ix2 r d)
      = mixed (fun e => x (ix2 r e)) (fun k => ys (ix2 r k)) (fun k => yr (ix2 r k)) (fun k d => w (ix2 k d)) d := by
  unfold mixed
  frame_out
  pointwise [k0_pay1]

/-- What the body stores second. -/
theorem query_apply (r : Fin 512) (d : Fin 1024) :
    out0_7 x ys yr w g wq (ix2 r d)
      = query (mixed (fun e => x (ix2 r e)) (fun k => ys (ix2 r k)) (fun k => yr (ix2 r k)) (fun k d => w (ix2 k d)))
          (fun e => g (ix2 0 e)) (fun k d => wq (ix2 k d)) d := by
  unfold query rms mixed
  frame_out
  pointwise [k0_pay2, k0_pay1]
end

theorem stream_point (t : Fin cfg0.N) (r : Fin 512) (d : Fin 1024) :
    out0_6 (iblk m c 0 t) (iblk m c 1 t) (iblk m c 2 t) (iblk m c 3 t) (iblk m c 4 t) (iblk m c 5 t) (ix2 r d) = stream m c r d := by
  rw [stream_apply]
  simp only [read0, read1, read2, read3]
  rfl

theorem query_point (t : Fin cfg0.N) (r : Fin 512) (d : Fin 1024) :
    out0_7 (iblk m c 0 t) (iblk m c 1 t) (iblk m c 2 t) (iblk m c 3 t) (iblk m c 4 t) (iblk m c 5 t) (ix2 r d) = queries m c r d := by
  rw [query_apply]
  simp only [read0, read1, read2, read3, read4, read5]
  rfl

/-- The residual stream the call leaves. -/
theorem final6 : (dats m 0 c).arrAt 6 cfg0.N = fun i : S512x1024.Idx => stream m c (i 0) (i 1) := by
  refine (dats m 0 c).arrAt_eq_of_covers 6 _ (by decide +kernel) fun t hf y => ?_
  have e := idx t
  have ht := zero t
  blk_simp
  rw [after0_6]
  idx_vars y
  have e0 : ((cfg0.win 6).blk t).view.emb (ix2 y0 y1) 0 = y0 := by
    apply Fin.ext
    show win0_6.index t (0 : Fin 2) * 512 + 1 * y0.val = y0.val; simp [e, ht]
  have e1 : ((cfg0.win 6).blk t).view.emb (ix2 y0 y1) 1 = y1 := by
    apply Fin.ext
    show win0_6.index t (1 : Fin 2) * 1024 + 1 * y1.val = y1.val; simp [e]
  exact (stream_point m c t y0 y1).trans (congrArg₂ (stream m c) e0.symm e1.symm)

/-- The queries the call leaves. -/
theorem final7 : (dats m 0 c).arrAt 7 cfg0.N = fun i : S512x1024.Idx => queries m c (i 0) (i 1) := by
  refine (dats m 0 c).arrAt_eq_of_covers 7 _ (by decide +kernel) fun t hf y => ?_
  have e := idx t
  have ht := zero t
  blk_simp
  rw [after0_7]
  idx_vars y
  have e0 : ((cfg0.win 7).blk t).view.emb (ix2 y0 y1) 0 = y0 := by
    apply Fin.ext
    show win0_7.index t (0 : Fin 2) * 512 + 1 * y0.val = y0.val; simp [e, ht]
  have e1 : ((cfg0.win 7).blk t).view.emb (ix2 y0 y1) 1 = y1 := by
    apply Fin.ext
    show win0_7.index t (1 : Fin 2) * 1024 + 1 * y1.val = y1.val; simp [e]
  exact (query_point m c t y0 y1).trans (congrArg₂ (queries m c) e0.symm e1.symm)

end Cert.Layer.Out

end
-- ==== Proof.OutClaims.lean ====
/-
  The claims about the call that projects the mixers' outputs of the sample batch: the three frames, and the kernel's two
  results equal to the reference's.
-/
module

public import proofs.«01_k».proof.Defs
public import proofs.«01_k».proof.Proof.Gen.Kernel4
public import proofs.«01_k».proof.Proof.Gen.Kernel4.Frame
public import proofs.«01_k».proof.Proof.OutRows
public import proofs.«01_k».proof.Proof.Gen.Reference4Ideal.Run

@[expose] public section

set_option maxRecDepth 16384

noncomputable section

namespace Cert.Layer.Out

open Idealize.ShloMosaic Idealize.ShloMosaic.TcCoe Idealize.ShloMosaic.StableHlo Idealize.SL.Sem

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono
    (fun r h => ⟨fun c => (h c).2.2, sem_eq_zero_of_no_sems (by decide) r.2⟩) (Cert.Reference4Ideal.Value.run (F := Ideal) m ρ)

section
open Cert.Reference4Ideal Cert.Reference4Ideal.Gen

/-- The reference's residual stream after the mixers, before it is laid out as a result. -/
def refStream (x : FVec Ideal S128x4x1024 .f32) (ys yr : FVec Ideal S512x512 .bf16) (w : FVec Ideal S1024x1024 .f32) : FVec Ideal S128x4x1024 .f32 :=
  addf x (Host.dotGeneral dot_S128x4x1024_S1024x1024_S128x4x1024_2_0_01_1_n_n none (concatenate S128x4x1024 2 [⟨S128x4x512, (shapeCast _ (extf .f32 ys bitsLt_bf16_f32) shapeCasts_S512x512_S128x4x512)⟩, ⟨S128x4x512, (shapeCast _ (extf .f32 yr bitsLt_bf16_f32) shapeCasts_S512x512_S128x4x512)⟩] concatenates_S128x4x512_S128x4x512_S128x4x1024_d2) w)

/-- The reference's queries from that stream. -/
def refQuery (x : FVec Ideal S128x4x1024 .f32) (g : FVec Ideal S1024 .f32) (w : FVec Ideal S1024x1024 .f32) : FVec Ideal S128x4x1024 .f32 :=
  Host.dotGeneral dot_S128x4x1024_S1024x1024_S128x4x1024_2_0_01_1_n_n none (mulf (mulf x (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf x x) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 g))) w

/-- At an index it is the row's stream. -/
theorem refStream_apply (x : FVec Ideal S128x4x1024 .f32) (ys yr : FVec Ideal S512x512 .bf16) (w : FVec Ideal S1024x1024 .f32) (b : Fin 128) (l : Fin 4) (d : Fin 1024) :
    refStream x ys yr w (ix3 b l d)
      = mixed (fun e => x (ix3 b l e)) (fun k => ys (ix2 (⟨b.val * 4 + l.val, by omega⟩ : Fin 512) k))
          (fun k => yr (ix2 (⟨b.val * 4 + l.val, by omega⟩ : Fin 512) k)) (fun k d => w (ix2 k d)) d := by
  unfold refStream mixed
  pointwise

/-- At an index it is the row's query. -/
theorem refQuery_apply (x : FVec Ideal S128x4x1024 .f32) (g : FVec Ideal S1024 .f32) (w : FVec Ideal S1024x1024 .f32) (b : Fin 128) (l : Fin 4) (d : Fin 1024) :
    refQuery x g w (ix3 b l d) = query (fun e => x (ix3 b l e)) (fun e => g (ix1 e)) (fun k d => w (ix2 k d)) d := by
  unfold refQuery query rms
  pointwise

/-- A row's sequence and position give the row back. -/
theorem row_back (n : Fin 512) : (⟨n.val / 4 * 4 + n.val % 4, by omega⟩ : Fin 512) = n := Fin.ext (by simp only; omega)

theorem refRows (x : FVec Ideal S128x4x1024 .f32) (ys yr : FVec Ideal S512x512 .bf16) (w : FVec Ideal S1024x1024 .f32) :
    shapeCast _ (refStream x ys yr w) shapeCasts_S128x4x1024_S512x1024
      = fun i : S512x1024.Idx => mixed (rowOf (fun b l e => x (ix3 b l e)) (i 0)) (fun k => ys (ix2 (i 0) k))
          (fun k => yr (ix2 (i 0) k)) (fun k d => w (ix2 k d)) (i 1) := by
  funext i
  idx_vars i
  pointwise [refStream_apply, row_back]
  rfl

theorem refQueries (x : FVec Ideal S128x4x1024 .f32) (ys yr : FVec Ideal S512x512 .bf16) (w : FVec Ideal S1024x1024 .f32)
    (g : FVec Ideal S1024 .f32) (wq : FVec Ideal S1024x1024 .f32) :
    shapeCast _ (refQuery (refStream x ys yr w) g wq) shapeCasts_S128x4x1024_S512x1024
      = fun i : S512x1024.Idx => query (mixed (rowOf (fun b l e => x (ix3 b l e)) (i 0)) (fun k => ys (ix2 (i 0) k))
          (fun k => yr (ix2 (i 0) k)) (fun k d => w (ix2 k d))) (fun e => g (ix1 e)) (fun k d => wq (ix2 k d)) (i 1) := by
  funext i
  idx_vars i
  pointwise [refQuery_apply, refStream_apply, row_back]
  rfl
end

theorem algebraic : Cert.algebraic_Kernel4Ideal_Reference4Ideal := by
  intro m ρ m' ρ' _ hagree
  refine ⟨fun c => (Cert.Kernel4Ideal.Gen.dats m 0 c).arrAt 6 Cert.Kernel4Ideal.cfg0.N, fun c => (Cert.Kernel4Ideal.Gen.dats m 0 c).arrAt 7 Cert.Kernel4Ideal.cfg0.N,
    Cert.Kernel4Ideal.Value.run_blocks (F := Ideal) m ρ, ?_⟩
  refine (θ_run Cert.Reference4Ideal.defs _ _).mono (fun r h c => ?_) (Cert.Reference4Ideal.Value.run (F := Ideal) m' ρ')
  obtain ⟨h0, h1, hargs⟩ := h c
  obtain ⟨a0, a1, a2, a3, a4, a5⟩ := hagree c
  rw [a0, a1, a2, a3] at h0
  rw [a0, a1, a2, a3, a4, a5] at h1
  exact ⟨h0.trans ((refRows _ _ _ _).trans (final6 m c).symm), h1.trans ((refQueries _ _ _ _ _ _).trans (final7 m c).symm), hargs⟩

end Cert.Layer.Out

end
-- ==== Proof.SampleProjRun.lean ====
/-
  The body of the call that normalises the sample batch's tokens and projects them, at each of its two grid points: the first
  computes the normalised block, keeps it for the second, and stores all three outputs; the second reads the block kept, and
  stores the first output and the third.
-/
module

public import proofs.«01_k».proof.Proof.ProjRun
public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Layer.SampleProj

open Cert.Layer.Proj (loaded)
open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first branch. -/
abbrev first (i : grid0.Coords) : Prop := (Scalar.cmpi .ne (Scalar.extui (Scalar.cmpi .eq (BitVec.ofNat 32 (i 1).val) 0#32)) 0#32) = 1#1

/-- It holds at the first point only. -/
theorem first_iff : ∀ t : Fin cfg0.N, first (grid0.coords t) ↔ t.val = 0 := (fun t => by
    have ht : t.val < 2 := Nat.lt_of_lt_of_eq t.isLt N_0
    have e1 : (grid0.coords t 1).val = t.val / 1 % 2 := Pipeline.Grid.coords_val t 1 (by decide) rfl
    simp only [first, e1]
    word_cmp
   : ∀ t : Fin grid0.N, first (grid0.coords t) ↔ t.val = 0)

/-- So does that of its second. -/
theorem second_iff : ∀ t : Fin cfg0.N, k0_cond2 (grid0.coords t) = 1#1 ↔ t.val = 0 := (fun t => by
    have ht : t.val < 2 := Nat.lt_of_lt_of_eq t.isLt N_0
    have e1 : (grid0.coords t 1).val = t.val / 1 % 2 := Pipeline.Grid.coords_val t 1 (by decide) rfl
    simp only [k0_cond2, e1]
    word_cmp
   : ∀ t : Fin grid0.N, k0_cond2 (grid0.coords t) = 1#1 ↔ t.val = 0)

set_option maxHeartbeats 1000000 in
/-- The first point. -/
theorem run_first (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1792x1024 .bf16) (harg4 : arg4.IsWhole) (arg5 : Memref sig .tc .vmem S512x1792 .f32) (harg5 : arg5.IsWhole) (arg6 : Memref sig .tc .vmem S512x128 .f32) (harg6 : arg6.IsWhole) (arg7 : Memref sig .tc .vmem S1x8x1792 .f32) (harg7 : arg7.IsWhole) (arg8 : Memref sig .tc .vmem S512x1024 .bf16) (harg8 : arg8.IsWhole)
    (hc0 : first i) (hc1 : k0_cond2 i = 1#1) (x0 : Vec F S512x1024 .f32) (x1 : Vec F S1x1024 .f32) (x2 : Vec F S1792x1024 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 (k0_pay1 x0 x1) x2) ∗ owns (c : Thread nD τ) arg6 fullShare (k0_pay4 (k0_pay1 x0 x1) x2)
            ∗ owns (c : Thread nD τ) arg7 fullShare (k0_pay3 (k0_pay1 x0 x1) x2) ∗ owns (c : Thread nD τ) arg8 fullShare (k0_pay1 x0 x1)) -∗ K ⟨⟩))
      ⊢ wp frame (wpE (defs₀ (F := F)) Variants.none c none) E (cc0_norm_proj i arg2 harg2 arg3 harg3 arg4 harg4 arg5 harg5 arg6 harg6 arg7 harg7 arg8 harg8) K := by
  simp only [cc0_norm_proj_eq_skeleton]; unfold cc0_norm_proj_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
  obtain rfl := harg2.eq_unread hf0; obtain rfl := harg3.eq_unread hf1; obtain rfl := harg4.eq_unread hf2
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro; exact (View.read_writes_full _ _ _ _ _).trans (congrArg₂ k0_pay2 ((View.readCov_full _ _ _ _ _).trans (congrArg₂ k0_pay1 (loaded harg2 x0 _) (loaded harg3 x1 _))) (loaded harg4 x2 _))
  isplitl [H4]
  · iexists _; isplitr
    swap; · iexact H4
    ipureintro; exact (View.read_writes_full _ _ _ _ _).trans (congrArg₂ k0_pay4 ((View.readCov_full _ _ _ _ _).trans (congrArg₂ k0_pay1 (loaded harg2 x0 _) (loaded harg3 x1 _))) (loaded harg4 x2 _))
  isplitl [H5]
  · iexists _; isplitr
    swap; · iexact H5
    ipureintro; exact (View.read_writes_full _ _ _ _ _).trans (congrArg₂ k0_pay3 ((View.readCov_full _ _ _ _ _).trans (congrArg₂ k0_pay1 (loaded harg2 x0 _) (loaded harg3 x1 _))) (loaded harg4 x2 _))
  · iexists _; isplitr
    swap; · iexact HS0
    ipureintro; exact (View.read_writes_full _ _ _ _ _).trans (congrArg₂ k0_pay1 (loaded harg2 x0 _) (loaded harg3 x1 _))

set_option maxHeartbeats 1000000 in
/-- The second point. -/
theorem run_second (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1792x1024 .bf16) (harg4 : arg4.IsWhole) (arg5 : Memref sig .tc .vmem S512x1792 .f32) (harg5 : arg5.IsWhole) (arg6 : Memref sig .tc .vmem S512x128 .f32) (harg6 : arg6.IsWhole) (arg7 : Memref sig .tc .vmem S1x8x1792 .f32) (harg7 : arg7.IsWhole) (arg8 : Memref sig .tc .vmem S512x1024 .bf16) (harg8 : arg8.IsWhole)
    (hc0 : ¬first i) (hc1 : ¬k0_cond2 i = 1#1) (x0 : Vec F S512x1024 .f32) (x1 : Vec F S1x1024 .f32) (x2 : Vec F S1792x1024 .bf16) (dt : Vec F S512x128 .f32) (h : Vec F S512x1024 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare dt ∗ (∃ d, owns (c : Thread nD τ) arg7 fullShare d) ∗ owns (c : Thread nD τ) arg8 fullShare h
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 h x2) ∗ owns (c : Thread nD τ) arg6 fullShare dt
            ∗ owns (c : Thread nD τ) arg7 fullShare (k0_pay3 h x2) ∗ owns (c : Thread nD τ) arg8 fullShare h) -∗ K ⟨⟩))
      ⊢ wp frame (wpE (defs₀ (F := F)) Variants.none c none) E (cc0_norm_proj i arg2 harg2 arg3 harg3 arg4 harg4 arg5 harg5 arg6 harg6 arg7 harg7 arg8 harg8) K := by
  simp only [cc0_norm_proj_eq_skeleton]; unfold cc0_norm_proj_skel
  unfold owns
  iintro ⟨⟨%f0, %hf0, H0⟩, ⟨%f1, %hf1, H1⟩, ⟨%f2, %hf2, H2⟩, ⟨%d3, %f3, -, H3⟩, ⟨%f4, %hf4, H4⟩, ⟨%d5, %f5, -, H5⟩, ⟨%fs0, %hfs0, HS0⟩, Hk⟩
  obtain rfl := harg2.eq_unread hf0; obtain rfl := harg3.eq_unread hf1; obtain rfl := harg4.eq_unread hf2; obtain rfl := harg6.eq_unread hf4; obtain rfl := harg8.eq_unread hfs0
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro; exact (View.read_writes_full _ _ _ _ _).trans (congrArg₂ k0_pay2 (loaded harg8 h _) (loaded harg4 x2 _))
  isplitl [H4]
  · iexists _; isplitr; · ipureintro; exact harg6.read_unread _
    iexact H4
  isplitl [H5]
  · iexists _; isplitr
    swap; · iexact H5
    ipureintro; exact (View.read_writes_full _ _ _ _ _).trans (congrArg₂ k0_pay3 (loaded harg8 h _) (loaded harg4 x2 _))
  · iexists _; isplitr; · ipureintro; exact harg8.read_unread _
    iexact HS0

end Cert.Layer.SampleProj

end
-- ==== Proof.SampleProjFrame.lean ====
/-
  The run of the call that normalises the sample batch's tokens and projects them: what its two grid points leave in the output
  blocks, the launch, and that every execution ends with the arguments as they were and every semaphore at zero.

  The first point normalises the tokens and keeps them in scratch memory, so what either point leaves is stated over the block
  at the first.
-/
module

public import proofs.«01_k».proof.Proof.SampleProjRun
public import proofs.«01_k».proof.Proof.Gen.Kernel5Ideal.Frame
public import Idealize.ShloMosaic.Lib.Claim

@[expose] public section

set_option maxRecDepth 16384

noncomputable section

namespace Cert.Layer.SampleProj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-! ## What a point leaves -/

/-- The first point. -/
def start : Fin cfg0.N := ⟨0, by decide⟩

/-- The normalised tokens. -/
def tokens (c : Dev nD) : Vec F S512x1024 .bf16 := k0_pay1 (iblk m c 0 start) (iblk m c 1 start)

theorem tokens_first (c : Dev nD) (t : Fin cfg0.N) (h : t.val = 0) : tokens m c = k0_pay1 (iblk m c 0 t) (iblk m c 1 t) := by
  unfold tokens; rw [show start = t from (Fin.ext h).symm]

/-- The scratch buffer that keeps them. -/
abbrev keep : Memref sig .tc .vmem S512x1024 .bf16 := Memref.whole cc0_scratch0

/-- The invariant before point `n`: the scratch buffer at what the point before left in it. -/
def inv (c : Dev nD) : (n : ℕ) → n ≤ cfg0.N → sProp 𝕄
  | 0, _ => Pipeline.ΦA spec0 c
  | n + 1, hn => iprop(owns (c : Thread nD τ) keep fullShare (tokens m c) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(owns (c : Thread nD τ) keep fullShare (tokens m c) ∗ (∃ r, prngReg c r)) := rfl

theorem inv_pos (c : Dev nD) (n : ℕ) (h : n ≤ cfg0.N) (hz : n ≠ 0) :
    inv m c n h = iprop(owns (c : Thread nD τ) keep fullShare (tokens m c) ∗ (∃ r, prngReg c r)) := by
  cases n with
  | zero => exact absurd rfl hz
  | succ n => rfl

theorem launched_eq (c : Dev nD) :
    (Pipeline.ΦA spec0 c : sProp 𝕄) = iprop((∃ d, owns (c : Thread nD τ) keep fullShare d) ∗ (∃ r, prngReg c r)) := by
  unfold Pipeline.ΦA; rw [scopedRest0_eq]; simp only [keep, owns_whole]; try rfl

/-- The proof data of the run. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (tokens m c) (iblk m c 2 t)
    | ⟨4, _⟩ => k0_pay4 (tokens m c) (iblk m c 2 start)
    | ⟨5, _⟩ => k0_pay3 (tokens m c) (iblk m c 2 t)
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = k0_pay2 (tokens m c) (iblk m c 2 t) := by dsimp only [dats]
theorem after4 (c : Dev nD) (t : Fin cfg0.N) : (dats m 0 c).after 4 t = k0_pay4 (tokens m c) (iblk m c 2 start) := by dsimp only [dats]
theorem after5 (c : Dev nD) (t : Fin cfg0.N) : (dats m 0 c).after 5 t = k0_pay3 (tokens m c) (iblk m c 2 t) := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d

/-! ## The output that only the first point stores -/

/-- Whether its buffer holds nothing stored since the last write-back: not so before the second point. -/
def blank : ℕ → Bool := fun n => n != 1

theorem blank_step : ∀ t : Fin cfg0.N,
    blank (t.val + 1) = ((cfg0.win 4).flush t || (cfg0.idle 4 (cfg0.grid.coords t) && blank t.val)) := by decide +kernel

theorem not_fresh (t : Fin cfg0.N) (h : ¬t.val = 0) : cfg0.fresh 4 t.val = false := by
  rw [Pipeline.Cfg.fresh_tab cfg0 4 blank rfl blank_step t.val (Nat.le_of_lt t.isLt)]
  have ht : t.val < 2 := lt_of_lt_of_eq t.isLt N_0
  simp [blank]
  omega

theorem stored_first : ∀ t : Fin cfg0.N, t.val = 0 → cfg0.idle 4 (grid0.coords t) = false := by decide +kernel
theorem idle_second : ∀ t : Fin cfg0.N, ¬t.val = 0 → cfg0.idle 4 (grid0.coords t) = true := by decide +kernel
theorem flush_second : ∀ t : Fin cfg0.N, ¬t.val = 0 → (cfg0.win 4).flush t = true := by decide +kernel

theorem after4_second (c : Dev nD) (t : Fin cfg0.N) (h : ¬t.val = 0) (ht : t.val - 1 < cfg0.N) :
    (dats m 0 c).after 4 t = (dats m 0 c).after 4 ⟨t.val - 1, ht⟩ := by
  rw [after4, after4]

theorem carried (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  by_cases h : t.val = 0
  · rw [stored_first t h] at hi; exact absurd hi Bool.false_ne_true
  · exact after4_second m c t h _

/-- So before the second point its buffer holds what the first left in it. -/
theorem before4_second (c : Dev nD) (t : Fin cfg0.N) (h : ¬t.val = 0) (d) : (dats m 0 c).before 4 t d = (dats m 0 c).after 4 t := by
  rw [Dat.before_out_traj _ 4 rfl (fun _ _ => rfl) (carried m c) t.val t rfl d,
    if_neg (by rw [not_fresh t h]; exact Bool.false_ne_true)]
  exact (after4_second m c t h _).symm

theorem leaves0 (c : Dev nD) (t : Fin cfg0.N) : (dats m 0 c).leavesExact 0 t = owns (c : Thread nD τ) (win0_0.stage (cfg0.slots t 0)) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (win0_1.stage (cfg0.slots t 1)) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (win0_2.stage (cfg0.slots t 2)) fullShare (iblk m c 2 t) := by
  unfold Dat.leavesExact; rw [show cfg0.idle 2 (cfg0.grid.coords t) = false from rfl, after2]
theorem leaves3 (c : Dev nD) (t : Fin cfg0.N) : (dats m 0 c).leavesExact 3 t = owns (c : Thread nD τ) (win0_3.stage (cfg0.slots t 3)) fullShare (k0_pay2 (tokens m c) (iblk m c 2 t)) := by
  unfold Dat.leavesExact; rw [show cfg0.idle 3 (cfg0.grid.coords t) = false from rfl, after3]
theorem leaves5 (c : Dev nD) (t : Fin cfg0.N) : (dats m 0 c).leavesExact 5 t = owns (c : Thread nD τ) (win0_5.stage (cfg0.slots t 5)) fullShare (k0_pay3 (tokens m c) (iblk m c 2 t)) := by
  unfold Dat.leavesExact; rw [show cfg0.idle 5 (cfg0.grid.coords t) = false from rfl, after5]
theorem leaves4 (c : Dev nD) (t : Fin cfg0.N) : (dats m 0 c).leavesExact 4 t = owns (c : Thread nD τ) (win0_4.stage (cfg0.slots t 4)) fullShare ((dats m 0 c).after 4 t) := by
  unfold Dat.leavesExact
  by_cases h : t.val = 0
  · rw [show cfg0.idle 4 (cfg0.grid.coords t) = false from stored_first t h]
  · rw [show cfg0.idle 4 (cfg0.grid.coords t) = true from idle_second t h, flush_second t h]

/-! ## The body at a point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The invariant hands the first point the scratch buffer at something. -/
theorem inv_any (c : Dev nD) (t : Fin cfg0.N) :
    (dats m 0 c).Φ t.castSucc ⊢ iprop((∃ d, owns (c : Thread nD τ) keep fullShare d) ∗ (∃ r, prngReg c r)) := by
  rw [inv_castSucc]
  by_cases hz : t.val = 0
  · rw [inv_zero m c _ _ hz, launched_eq]
  · rw [inv_pos m c _ _ hz]
    iintro ⟨HS, Hg⟩
    isplitl [HS]
    · iexists _; iexact HS
    iexact Hg

set_option maxHeartbeats 1000000 in
theorem body_first (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0, before1, before2]
  rw [leaves0, leaves1, leaves2, leaves3, leaves4, leaves5, after4,
    show (dats m 0 c).owesAt () t.succ = (dats m 0 c).owesAt () t.castSucc from rfl,
    show (dats m 0 c).Φ t.succ = inv m c (t.val + 1) t.isLt from rfl, inv_succ,
    show start = t from (Fin.ext h).symm, tokens_first m c t h]
  iintro ⟨HΦ, Ho, ⟨%d0, H0⟩, ⟨%d1, H1⟩, ⟨%d2, H2⟩, ⟨%d3, H3⟩, ⟨%d4, H4⟩, ⟨%d5, H5⟩⟩
  ihave HΦ' := (inv_any m c t) $$ HΦ
  icases HΦ' with ⟨HS, Hg⟩
  iapply (run_first c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ _ ((first_iff t).mpr h) ((second_iff t).mpr h) (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS]; · iexact HS
  iintro ⟨H0, H1, H2, H3, H4, H5, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1000000 in
theorem body_second (c : Dev nD) (t : Fin cfg0.N) (h : ¬t.val = 0) :
    bodyPre m c t ⊢ wp frame (wpE (defs₀ (F := F)) Variants.none c none) Set.univ (bodyAt0 t) (fun _ => bodyPost m c t) := by
  have hz : t.val ≠ 0 := fun e => h (by rw [e])
  unfold bodyPre bodyPost bodyAt0
  simp only [before0, before1, before2, before4_second m c t h]
  rw [leaves0, leaves1, leaves2, leaves3, leaves4, leaves5,
    show (dats m 0 c).owesAt () t.succ = (dats m 0 c).owesAt () t.castSucc from rfl,
    show (dats m 0 c).Φ t.succ = inv m c (t.val + 1) t.isLt from rfl, inv_succ,
    inv_castSucc, inv_pos m c _ _ hz]
  iintro ⟨⟨HS, Hg⟩, Ho, ⟨%d0, H0⟩, ⟨%d1, H1⟩, ⟨%d2, H2⟩, ⟨%d3, H3⟩, ⟨%d4, H4⟩, ⟨%d5, H5⟩⟩
  iapply (run_second c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ _ (fun e => h ((first_iff t).mp e)) (fun e => h ((second_iff t).mp e)) (iblk m c 0 t) (iblk m c 1 t) (iblk m c 2 t) ((dats m 0 c).after 4 t) (tokens m c) Set.univ _)
  isplitl [H0]; · iexact H0
  isplitl [H1]; · iexact H1
  isplitl [H2]; · iexact H2
  isplitl [H3]; · iexists _; iexact H3
  isplitl [H4]; · iexact H4
  isplitl [H5]; · iexists _; iexact H5
  isplitl [HS]; · iexact HS
  iintro ⟨H0, H1, H2, H3, H4, H5, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

theorem body_at (c : Dev nD) (t : Fin cfg0.N) :
    bodyPre m c t ⊢ wp frame (wpE (defs₀ (F := F)) Variants.none c none) Set.univ (bodyAt0 t) (fun _ => bodyPost m c t) := by
  by_cases h : t.val = 0
  · exact body_first m c t h
  · exact body_second m c t h

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (body_at m c t) rfl .rfl fun _ => .rfl

theorem inv_in (c : Dev nD) : Pipeline.ΦA spec0 c ⊢ (dats m 0 c).Φ 0 := by
  rw [show (dats m 0 c).Φ 0 = inv m c 0 (Nat.zero_le _) from rfl, inv_zero m c 0 _ rfl]

theorem inv_out (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    inv_pos m c _ _ (by rw [Fin.val_last]; have : cfg0.N = 2 := N_0; omega), launched_eq]
  iintro ⟨HS, Hg⟩
  isplitl [HS]
  · iexists _; iexact HS
  iexact Hg

/-! ## The run -/

set_option backward.isDefEq.respectTransparency.types false in
/-- Every execution ends with the arrays at what the proof data say and every semaphore at zero. -/
theorem run_sems : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := inv_in m) (hout := inv_out m)

theorem run : θ_run defs (onTc (τ := τ) (main (F := F))) (s₀ m ρ) (Pipeline.FramePost cfgs (dats m) 0 (V m)) :=
  (θ_run defs _ _).mono (fun _ h => h.1) (run_sems m ρ)

/-- Every execution ends with the arguments as they were and every semaphore at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_sems m ρ))

/-- Every execution ends with the three results at the arrays the proof data name. -/
theorem run_blocks : θ_run defs (onTc (τ := τ) (main (F := F))) ⟨m, fun _ => 0, ρ⟩ fun r => ∀ c : Dev nD,
      r.2.mem ((c : Thread nD τ).loc main_v8_0) = (dats m 0 c).arrAt 3 cfg0.N
      ∧ r.2.mem ((c : Thread nD τ).loc main_v8_1) = (dats m 0 c).arrAt 4 cfg0.N
      ∧ r.2.mem ((c : Thread nD τ).loc main_v8_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3, (h c).1 4, (h c).1 5,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩) (run m ρ)

end Cert.Layer.SampleProj

end
-- ==== Proof.SampleProjRows.lean ====
/-
  The call that normalises the sample batch's tokens and projects them: at each of its two grid points, the normalised tokens
  against one half of the padded projection; and the three arrays these points leave.
-/
module

public import proofs.«01_k».proof.Proof.Rows
public import proofs.«01_k».proof.Proof.ProjRows
public import proofs.«01_k».proof.Proof.SampleProjFrame
public import Idealize.ShloMosaic.Lib.Tactic
public import Idealize.ShloMosaic.Lib.Pipeline.ValueKit
public import Idealize.ShloMosaic.Lib.Pipeline.ReadBack

@[expose] public section

set_option maxRecDepth 16384

noncomputable section

namespace Cert.Layer.SampleProj

open Cert.Layer.Proj (padded)
open Cert.Layer Cert.Kernel5Ideal Cert.Kernel5Ideal.Gen Idealize.ShloMosaic Idealize.ShloMosaic.TcCoe Idealize.SL.Sem

variable (m : (ℓ : Loc nD τ sig) → Buf (Elt Ideal) ℓ) (c : Dev nD)

/-- A normalised token against one of these columns. -/
def proj (x : Fin 128 → Fin 4 → Fin 1024 → EReal) (g : Fin 1024 → EReal) (w : Fin 1024 → Fin 3336 → EReal)
    (n : Fin 512) (q : Fin 3584) : EReal :=
  ∑ k, rms (x ⟨n.val / 4, by omega⟩ ⟨n.val % 4, by omega⟩) g k * padded w k q

/-- The tokens. -/
def tok (b : Fin 128) (l : Fin 4) (d : Fin 1024) : EReal := m ((c : Thread nD τ).loc main_arg0) (ix3 b l d)
/-- The norm's scale. -/
def gain (d : Fin 1024) : EReal := m ((c : Thread nD τ).loc main_arg1) (ix1 d)
/-- The projection. -/
def win (k : Fin 1024) (q : Fin 3336) : EReal := m ((c : Thread nD τ).loc main_arg2) (ix2 k q)

/-- The block indices, decided over the grid. -/
theorem idx : ∀ t : Fin cfg0.N,
    win0_0.index t = ![0, 0] ∧ win0_1.index t = ![0, 0] ∧ win0_2.index t = ![t.val, 0]
      ∧ win0_3.index t = ![0, t.val] ∧ win0_4.index t = ![0, 0] ∧ win0_5.index t = ![0, 0, t.val] := by
  decide +kernel

theorem lt2 (t : Fin cfg0.N) : t.val < 2 := lt_of_lt_of_eq t.isLt N_0

theorem read0 (t : Fin cfg0.N) (r : Fin 512) (d : Fin 1024) :
    iblk m c 0 t (ix2 r d) = m ((c : Thread nD τ).loc main_arg0) (ix3 (⟨r.val / 4, by omega⟩ : Fin 128) (⟨r.val % 4, by omega⟩ : Fin 4) d) := by
  have ht := lt2 t
  blk_point [iblk, V, idx t]

theorem read1 (t : Fin cfg0.N) (d : Fin 1024) : iblk m c 1 t (ix2 0 d) = m ((c : Thread nD τ).loc main_arg1) (ix1 d) := by
  have ht := lt2 t
  blk_point [iblk, V, idx t]

/-- The padded projection's rows, as the region finds them. -/
theorem weights_eq : (V m c main_v5 : S3584x1024.Idx → EReal)
    = truncf (F := Ideal) .bf16 (concatenate S3584x1024 0 [⟨S1544x1024, extractStridedSlice S1544x1024 ![0, 0] (transpose S3336x1024 [1, 0] (m ((c : Thread nD τ).loc main_arg2) : FVec Ideal S1024x3336 .f32) transposes_S1024x3336_S3336x1024_1_0) slices_S3336x1024_S1544x1024_0_0⟩,
        ⟨S248x1024, broadcastInDim S248x1024 ![] bcast_S_S248x1024 (constant (F := Ideal) S_ .f32 0x00000000#32)⟩,
        ⟨S1792x1024, extractStridedSlice S1792x1024 ![1544, 0] (transpose S3336x1024 [1, 0] (m ((c : Thread nD τ).loc main_arg2) : FVec Ideal S1024x3336 .f32) transposes_S1024x3336_S3336x1024_1_0) slices_S3336x1024_S1792x1024_1544_0⟩] concatenates_S1544x1024_S248x1024_S1792x1024_S3584x1024_d0) bitsLt_bf16_f32 := by
  unfold V hostOps0
  after_results <;> rfl

theorem weights_apply (q : Fin 3584) (k : Fin 1024) : V m c main_v5 (ix2 q k) = padded (win m c) k q := by
  have hq := q.isLt
  rw [weights_eq]
  unfold padded win
  split_ifs with h h'
  · pointwise
    rw [dif_pos h]
  · pointwise
    rw [dif_neg h, dif_pos (by omega)]
  · pointwise
    rw [dif_neg h, dif_neg (by omega)]
    congr 2
    apply Fin.ext
    show 1544 + (q.val - 1544 - 248) = q.val - 248
    omega

theorem read2 (t : Fin cfg0.N) (r : Fin 1792) (k : Fin 1024) (q : Fin 3584) (hq : q.val = 1792 * t.val + r.val) :
    iblk m c 2 t (ix2 r k) = padded (win m c) k q := by
  obtain ⟨-, -, e, -⟩ := idx t
  rw [← weights_apply]
  show V m c main_v5 (((cfg0.win 2).blk t).view.emb (ix2 r k)) = _
  congr 1
  funext a; apply Fin.ext
  match a with
  | ⟨0, _⟩ => show win0_2.index t (0 : Fin 2) * 1792 + 1 * r.val = q.val; rw [e, hq]; simp [Nat.mul_comm]
  | ⟨1, _⟩ => show win0_2.index t (1 : Fin 2) * 1024 + 1 * k.val = k.val; rw [e]; simp

/-- The normalised block, at an index. -/
theorem norm_apply (x : Vec Ideal S512x1024 .f32) (g : Vec Ideal S1x1024 .f32) (r : Fin 512) (k : Fin 1024) :
    k0_pay1 x g (ix2 r k) = rms (fun e => x (ix2 r e)) (fun e => g (ix2 0 e)) k := by
  unfold rms
  pointwise [k0_pay1]

theorem tokens_apply (r : Fin 512) (k : Fin 1024) :
    tokens m c (ix2 r k) = rms (tok m c ⟨r.val / 4, by omega⟩ ⟨r.val % 4, by omega⟩) (gain m c) k := by
  unfold tokens
  rw [norm_apply]
  have e0 : (fun e => iblk m c 0 start (ix2 r e)) = tok m c ⟨r.val / 4, by omega⟩ ⟨r.val % 4, by omega⟩ := funext fun e => read0 m c _ r e
  have e1 : (fun e => iblk m c 1 start (ix2 0 e)) = gain m c := funext fun e => read1 m c _ e
  rw [e0, e1]

theorem product_apply (h : Vec Ideal S512x1024 .bf16) (w : Vec Ideal S1792x1024 .bf16) (r : Fin 512) (d : Fin 1792) :
    k0_pay2 h w (ix2 r d) = ∑ k, h (ix2 r k) * w (ix2 d k) := by
  pointwise [k0_pay2]

/-- A point's product is its tokens' projection. -/
theorem product_point (t : Fin cfg0.N) (r : Fin 512) (d : Fin 1792) (n : Fin 512) (hn : n.val = r.val) (q : Fin 3584) (hq : q.val = 1792 * t.val + d.val) :
    k0_pay2 (tokens m c) (iblk m c 2 t) (ix2 r d) = proj (tok m c) (gain m c) (win m c) n q := by
  obtain rfl : n = r := Fin.ext hn
  rw [product_apply]
  unfold proj
  refine Finset.sum_congr rfl fun k _ => ?_
  rw [tokens_apply, read2 m c t d k q hq]

theorem steps_apply (h : Vec Ideal S512x1024 .bf16) (w : Vec Ideal S1792x1024 .bf16) (r : Fin 512) (d : Fin 128) :
    k0_pay4 h w (ix2 r d) = k0_pay2 h w (ix2 r (⟨1536 + d.val, by omega⟩ : Fin 1792)) := by
  pointwise [k0_pay4]

theorem last_apply (h : Vec Ideal S512x1024 .bf16) (w : Vec Ideal S1792x1024 .bf16) (z : Fin 1) (r : Fin 8) (d : Fin 1792) :
    k0_pay3 h w (ix3 z r d) = k0_pay2 h w (ix2 (⟨504 + r.val, by omega⟩ : Fin 512) d) := by
  pointwise [k0_pay3]

/-- All columns, as the call leaves them. -/
theorem final3 : (dats m 0 c).arrAt 3 cfg0.N = fun i : S512x3584.Idx => proj (tok m c) (gain m c) (win m c) (i 0) (i 1) := by
  refine (dats m 0 c).arrAt_eq_of_covers 3 _ (by decide +kernel) fun t hf y => ?_
  have e := idx t
  blk_simp
  rw [after3]
  idx_vars y
  refine product_point m c t y0 y1 (((cfg0.win 3).blk t).view.emb (ix2 y0 y1) 0) ?_ (((cfg0.win 3).blk t).view.emb (ix2 y0 y1) 1) ?_
  · show win0_3.index t (0 : Fin 2) * 512 + 1 * y0.val = _; simp [e]
  · show win0_3.index t (1 : Fin 2) * 1792 + 1 * y1.val = _; simp [e, Nat.mul_comm]

/-- The step sizes' columns. -/
theorem final4 : (dats m 0 c).arrAt 4 cfg0.N
    = fun i : S512x128.Idx => proj (tok m c) (gain m c) (win m c) (i 0) ⟨1536 + (i 1).val, by have h1 : (i 1).val < 128 := (i 1).isLt; omega⟩ := by
  refine (dats m 0 c).arrAt_eq_of_covers 4 _ (by decide +kernel) fun t hf y => ?_
  have e := idx t
  blk_simp
  rw [after4]
  idx_vars y
  rw [steps_apply]
  have e1 : win0_4.index t (1 : Fin 2) * 128 + y1.val = y1.val := by simp [e]
  refine product_point m c start y0 _ (((cfg0.win 4).blk t).view.emb (ix2 y0 y1) 0) ?_ _ ?_
  · show win0_4.index t (0 : Fin 2) * 512 + 1 * y0.val = _; simp [e]
  · show 1536 + (win0_4.index t (1 : Fin 2) * 128 + y1.val) = 1792 * 0 + (1536 + y1.val)
    rw [e1]; omega

/-- The last eight rows. -/
theorem final5 : (dats m 0 c).arrAt 5 cfg0.N
    = fun i : S1x8x3584.Idx => proj (tok m c) (gain m c) (win m c) ⟨504 + (i 1).val, by have h1 : (i 1).val < 8 := (i 1).isLt; omega⟩ (i 2) := by
  refine (dats m 0 c).arrAt_eq_of_covers 5 _ (by decide +kernel) fun t hf y => ?_
  have e := idx t
  blk_simp
  rw [after5]
  idx_vars y
  rw [last_apply]
  have e1 : win0_5.index t (1 : Fin 3) * 8 + y1.val = y1.val := by simp [e]
  refine product_point m c t _ y2 _ ?_ (((cfg0.win 5).blk t).view.emb (ix3 y0 y1 y2) 2) ?_
  · show 504 + (win0_5.index t (1 : Fin 3) * 8 + y1.val) = 504 + y1.val
    rw [e1]
  · show win0_5.index t (2 : Fin 3) * 1792 + 1 * y2.val = _; simp [e, Nat.mul_comm]

end Cert.Layer.SampleProj

end
-- ==== Proof.SampleProjClaims.lean ====
/-
  The claims about the call that normalises the sample batch's tokens and projects them: the three frames, and the kernel's three results
  equal to the reference's.
-/
module

public import proofs.«01_k».proof.Defs
public import proofs.«01_k».proof.Proof.Gen.Kernel5
public import proofs.«01_k».proof.Proof.SampleProjRows
public import proofs.«01_k».proof.Proof.Gen.Reference5Ideal.Run

@[expose] public section

set_option maxRecDepth 16384

noncomputable section

namespace Cert.Layer.SampleProj

open Idealize.ShloMosaic Idealize.ShloMosaic.TcCoe Idealize.ShloMosaic.StableHlo Idealize.SL.Sem

/-- The kernel and its idealisation replace nothing, so they are the same program, body by body -/
theorem bodies_eq : @Cert.Kernel5.defs₀ Bits _ _ = @Cert.Kernel5Ideal.defs₀ Bits _ _ := by
  unfold Cert.Kernel5.defs₀ Cert.Kernel5Ideal.defs₀
  congr 1
  funext l x
  match l, x with
  | ⟨0, _⟩, (t, s) => rfl
  | ⟨_ + 1, h⟩, _ => exact absurd h (Nat.not_lt.2 (Nat.le_add_left _ _))

/-- and pipeline by pipeline. -/
theorem defs_eq : @Cert.Kernel5.defs Bits _ _ = @Cert.Kernel5Ideal.defs Bits _ _ := by
  unfold Cert.Kernel5.defs Cert.Kernel5Ideal.defs
  rw [bodies_eq]
  rfl

theorem frame_kernel : Cert.quiescent_Kernel5 := fun m ρ _ => by
  rw [defs_eq]
  exact kept (F := Bits) m ρ

theorem frame_ideal : Cert.quiescent_Kernel5Ideal := fun m ρ _ => kept m ρ

theorem frame_reference : Cert.quiescent_Reference5Ideal := fun m ρ _ =>
  (θ_run Cert.Reference5Ideal.defs _ _).mono
    (fun r h => ⟨fun c => (h c).2.2.2, sem_eq_zero_of_no_sems (by decide) r.2⟩) (Cert.Reference5Ideal.Value.run (F := Ideal) m ρ)

section
open Cert.Reference5Ideal Cert.Reference5Ideal.Gen

/-- The reference's projection of the normalised tokens, -/
def refProj (x : FVec Ideal S128x4x1024 .f32) (g : FVec Ideal S1024 .f32) (w : FVec Ideal S1024x3336 .f32) : FVec Ideal S128x4x3336 .f32 :=
  Host.dotGeneral dot_S128x4x1024_S1024x3336_S128x4x3336_2_0_01_1_n_n none (mulf (mulf x (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf x x) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 g))) w

/-- and the same with the columns of zeros. -/
def refAll (x : FVec Ideal S128x4x1024 .f32) (g : FVec Ideal S1024 .f32) (w : FVec Ideal S1024x3336 .f32) : FVec Ideal S512x3584 .f32 :=
  concatenate S512x3584 1 [⟨S512x1544, extractStridedSlice S512x1544 ![0, 0] (shapeCast _ (refProj x g w) shapeCasts_S128x4x3336_S512x3336) slices_S512x3336_S512x1544_0_0⟩, ⟨S512x248, broadcastInDim S512x248 ![] bcast_S_S512x248 (constant (F := Ideal) S_ .f32 0x00000000#32)⟩, ⟨S512x1792, extractStridedSlice S512x1792 ![0, 1544] (shapeCast _ (refProj x g w) shapeCasts_S128x4x3336_S512x3336) slices_S512x3336_S512x1792_0_1544⟩] concatenates_S512x1544_S512x248_S512x1792_S512x3584_d1

/-- At an index it is a token's projection. -/
theorem refProj_apply (x : FVec Ideal S128x4x1024 .f32) (g : FVec Ideal S1024 .f32) (w : FVec Ideal S1024x3336 .f32) (b : Fin 128) (l : Fin 4) (d : Fin 3336) :
    refProj x g w (ix3 b l d) = ∑ k, rms (fun e => x (ix3 b l e)) (fun e => g (ix1 e)) k * w (ix2 k d) := by
  unfold refProj rms
  pointwise

/-- The padding's columns are sums of zeros. -/
theorem refAll_apply (x : FVec Ideal S128x4x1024 .f32) (g : FVec Ideal S1024 .f32) (w : FVec Ideal S1024x3336 .f32) (n : Fin 512) (q : Fin 3584) :
    refAll x g w (ix2 n q) = proj (fun b l e => x (ix3 b l e)) (fun e => g (ix1 e)) (fun k d => w (ix2 k d)) n q := by
  have hn := n.isLt
  have hq := q.isLt
  unfold refAll proj Proj.padded
  split_ifs with h h'
  · pointwise [refProj_apply]
    rw [dif_pos h]
  · pointwise [refProj_apply]
    rw [dif_neg h, dif_pos (by omega)]
    simp
  · pointwise [refProj_apply]
    rw [dif_neg h, dif_neg (by omega)]
    have e : (⟨1544 + (q.val - 1544 - 248), by omega⟩ : Fin 3336) = ⟨q.val - 248, by omega⟩ := Fin.ext (by show 1544 + (q.val - 1544 - 248) = q.val - 248; omega)
    rw [e]

theorem ref3 (x : FVec Ideal S128x4x1024 .f32) (g : FVec Ideal S1024 .f32) (w : FVec Ideal S1024x3336 .f32) :
    refAll x g w
      = fun i : S512x3584.Idx => proj (fun b l e => x (ix3 b l e)) (fun e => g (ix1 e)) (fun k d => w (ix2 k d)) (i 0) (i 1) := by
  funext i
  idx_vars i
  exact refAll_apply x g w _ _

theorem ref4 (x : FVec Ideal S128x4x1024 .f32) (g : FVec Ideal S1024 .f32) (w : FVec Ideal S1024x3336 .f32) :
    extractStridedSlice S512x128 ![0, 1536] (refAll x g w) slices_S512x3584_S512x128_0_1536
      = fun i : S512x128.Idx => proj (fun b l e => x (ix3 b l e)) (fun e => g (ix1 e)) (fun k d => w (ix2 k d)) (i 0) ⟨1536 + (i 1).val, by have h1 : (i 1).val < 128 := (i 1).isLt; omega⟩ := by
  funext i
  idx_vars i
  pointwise [refAll_apply]

/-- The last eight rows, read off the whole. -/
theorem last_rows (u : FVec Ideal S512x3584 .f32) (a : Fin 1) (b : Fin 8) (q : Fin 3584) :
    extractStridedSlice S1x8x3584 ![0, 504, 0] (shapeCast _ u shapeCasts_S512x3584_S1x512x3584) slices_S1x512x3584_S1x8x3584_0_504_0 (ix3 a b q)
      = u (ix2 (⟨504 + b.val, by omega⟩ : Fin 512) q) := by
  pointwise

theorem ref5 (x : FVec Ideal S128x4x1024 .f32) (g : FVec Ideal S1024 .f32) (w : FVec Ideal S1024x3336 .f32) :
    extractStridedSlice S1x8x3584 ![0, 504, 0] (shapeCast _ (refAll x g w) shapeCasts_S512x3584_S1x512x3584) slices_S1x512x3584_S1x8x3584_0_504_0
      = fun i : S1x8x3584.Idx => proj (fun b l e => x (ix3 b l e)) (fun e => g (ix1 e)) (fun k d => w (ix2 k d))
          ⟨504 + (i 1).val, by have h1 : (i 1).val < 8 := (i 1).isLt; omega⟩ (i 2) := by
  funext i
  idx_vars i
  exact (last_rows _ _ _ _).trans (refAll_apply _ _ _ _ _)
end

theorem algebraic : Cert.algebraic_Kernel5Ideal_Reference5Ideal := by
  intro m ρ m' ρ' _ hagree
  refine ⟨fun c => (dats m 0 c).arrAt 3 Cert.Kernel5Ideal.cfg0.N, fun c => (dats m 0 c).arrAt 4 Cert.Kernel5Ideal.cfg0.N,
    fun c => (dats m 0 c).arrAt 5 Cert.Kernel5Ideal.cfg0.N, run_blocks (F := Ideal) m ρ, ?_⟩
  refine (θ_run Cert.Reference5Ideal.defs _ _).mono (fun r h c => ?_) (Cert.Reference5Ideal.Value.run (F := Ideal) m' ρ')
  obtain ⟨h0, h1, h2, hargs⟩ := h c
  obtain ⟨a0, a1, a2⟩ := hagree c
  rw [a0, a1, a2] at h0 h1 h2
  exact ⟨h0.trans ((ref3 _ _ _).trans (final3 m c).symm), h1.trans ((ref4 _ _ _).trans (final4 m c).symm),
    h2.trans ((ref5 _ _ _).trans (final5 m c).symm), hargs⟩

end Cert.Layer.SampleProj

end
-- ==== Proof.SsdTailFinite.lean ====
/-
  The precondition of the kept rows' claim, read entry by entry: an array all of whose absolute values lie below infinity
  has neither infinity as an entry.
-/
module

public import proofs.«01_k».proof.Proof.Rows
public import proofs.«01_k».proof.Proof.Gen.Pre_finite
public import Idealize.ShloMosaic.Lib.Tactic

@[expose] public section

noncomputable section

namespace Cert.Layer.SsdTail

open Cert.Layer Cert.Pre_finite Cert.Pre_finite.Gen Idealize.ShloMosaic

/-- A conjunction of bits that is true has only true bits. -/
theorem and_all {α : Type} (g : α → BitVec 1) (l : List α) (a : BitVec 1)
    (h : l.foldl (fun r n => IntOp.andi r (g n)) a = 1#1) : a = 1#1 ∧ ∀ n ∈ l, g n = 1#1 := by
  induction l generalizing a with
  | nil => exact ⟨h, fun n hn => absurd hn List.not_mem_nil⟩
  | cons b l ih =>
    obtain ⟨h1, h2⟩ := ih _ h
    have hb : ∀ x y : BitVec 1, IntOp.andi x y = 1#1 → x = 1#1 ∧ y = 1#1 := by decide
    obtain ⟨ha, hg⟩ := hb _ _ h1
    refine ⟨ha, fun n hn => ?_⟩
    rcases List.mem_cons.1 hn with rfl | hn
    · exact hg
    · exact h2 n hn

theorem entry_finite (u : FVec Ideal S512x3584 .f32) (a1 : FVec Ideal S512x128 .f32) (a2 : FVec Ideal S128x3x1024 .f32) (a3 : FVec Ideal S128x8x64x128 .f32)
    (a4 : FVec Ideal S4x1024 .f32) (a5 : FVec Ideal S1024 .f32) (a6 a7 a8 : FVec Ideal S8 .f32) (a9 : FVec Ideal S512 .f32)
    (h : fn (F := Ideal) u a1 a2 a3 a4 a5 a6 a7 a8 a9 = fun _ => 1#1) (i : S512x3584.Idx) : u i ≠ (⊤ : EReal) ∧ u i ≠ (⊥ : EReal) := by
  have h0 := congrFun h (fun a => a.elim0)
  unfold fn at h0
  have h1 := (and_all _ _ _ h0).2 (S512x3584.rowMajor i) (by
    rw [List.mem_filter]
    exact ⟨List.mem_finRange _, decide_eq_true (funext fun a => a.elim0)⟩)
  rw [Equiv.symm_apply_apply] at h1
  idx_vars i
  have e : cmpf .olt (Host.absf u) (broadcastInDim S512x3584 ![] Facts.bcast_S_S512x3584 (constant S_ .f32 0x7F800000#32)) (ix2 i0 i1) = 1#1 := h1
  revert e
  pointwise
  intro e
  have lt : FloatOps.absf (F := Ideal) (φ := .f32) (u (ix2 i0 i1)) < Ideal.ofBits .f32 0x7F800000#32 := by
    by_contra hn
    rw [decide_eq_false hn] at e
    exact absurd e (by decide)
  have top : FloatOps.absf (F := Ideal) (φ := .f32) (u (ix2 i0 i1)) ≠ (⊤ : EReal) := ne_top_of_lt lt
  constructor <;> intro hu <;> rw [hu] at top
  · exact top (by simp [FloatOps.absf])
  · exact top (by simp [FloatOps.absf])

end Cert.Layer.SsdTail

end
-- ==== Proof.SsdTailSel.lean ====
/-
  The selector matrix of the sample batch's first mixer: the host computes it from row numbers, and row `r` of it has its
  one in column `4 (r / 3) + 1 + r % 3`.
-/
module

public import proofs.«01_k».proof.Proof.Rows
public import proofs.«01_k».proof.Proof.Gen.Kernel6Ideal.Value
public import Idealize.ShloMosaic.Lib.Tactic
public import Idealize.ShloMosaic.Lib.Pipeline.ValueKit
public import Idealize.ShloMosaic.Lib.Pipeline.ReadBack

@[expose] public section

set_option maxRecDepth 16384

noncomputable section

namespace Cert.Layer.SsdTail

open Cert.Layer Cert.Kernel6Ideal Cert.Kernel6Ideal.Gen Cert.Kernel6Ideal.Value Idealize.ShloMosaic Idealize.ShloMosaic.TcCoe Idealize.SL.Sem

variable (m : (ℓ : Loc nD τ sig) → Buf (Elt Ideal) ℓ) (c : Dev nD)

/-- A constant, in each of the selector's 48 rows. -/
def all48 (b : BitVec 32) : IVec S48 32 := broadcastInDim S48 ![] bcast_S_S48 (constantI S_ 32 b)

/-- Numbers by a divisor, rounded down, -/
def quot (n : IVec S48 32) (k : IVec S_ 32) : IVec S48 32 :=
  select (andi (cmpi .ne (signi n) (broadcastInDim S48 ![] bcast_S_S48 (signi k)))
      (cmpi .ne (Host.remsi n (broadcastInDim S48 ![] bcast_S_S48 k)) (all48 0#32)))
    (subi (Host.divsi n (broadcastInDim S48 ![] bcast_S_S48 k)) (all48 1#32)) (Host.divsi n (broadcastInDim S48 ![] bcast_S_S48 k))

/-- a divisor that is not zero, -/
def divisor (k : IVec S_ 32) : IVec S_ 32 := select (cmpi .eq k (constantI S_ 32 0#32)) (constantI S_ 32 1#32) k

/-- and the remainder, of the divisor's sign. -/
def rest (n : IVec S48 32) (k : IVec S_ 32) : IVec S48 32 :=
  select (andi (cmpi .ne (cmpi .slt (Host.remsi n (broadcastInDim S48 ![] bcast_S_S48 (divisor k))) (all48 0#32)) (broadcastInDim S48 ![] bcast_S_S48 (cmpi .slt (divisor k) (constantI S_ 32 0#32))))
      (cmpi .ne (Host.remsi n (broadcastInDim S48 ![] bcast_S_S48 (divisor k))) (all48 0#32)))
    (addi (Host.remsi n (broadcastInDim S48 ![] bcast_S_S48 (divisor k))) (broadcastInDim S48 ![] bcast_S_S48 (divisor k)))
    (Host.remsi n (broadcastInDim S48 ![] bcast_S_S48 (divisor k)))

/-- The column each row picks, from a row's first column, its remainder and the table of steps. -/
def column (q n : IVec S48 32) (steps : IVec S3 32) : IVec S48 32 :=
  addi q (Host.gather gather_S3_S48x1_S48_n_0_n_n_0_1_1 steps
    (broadcastInDim S48x1 ![0] bcast_S48_S48x1_0 (select (cmpi .slt n (all48 0#32)) (addi n (all48 3#32)) n)))

/-- A matrix with a one where its column is the one picked. -/
def ones (p : IVec S48 32) : FVec Ideal S48x64 .bf16 :=
  uitofp (F := Ideal) .bf16 (cmpi .eq (broadcastInDim S48x64 ![0, 1] bcast_S48x1_S48x64_0_1 (broadcastInDim S48x1 ![0] bcast_S48_S48x1_0 p))
    (broadcastInDim S48x64 ![0, 1] bcast_S1x64_S48x64_0_1 (broadcastInDim S1x64 ![1] bcast_S64_S1x64_1 (iotaInDim S64 32 0))))

section
variable (f : Valuation τ sig (Elt Ideal))

/-- The first operations leave the row numbers, the divisor and the table of steps. -/
theorem first_stage : (StableHlo.after (hostOps0 (F := Ideal)) f (Proc.devRef .tc main_v19) : IVec S48 32) = iotaInDim S48 32 0
    ∧ (StableHlo.after (hostOps0 (F := Ideal)) f (Proc.devRef .tc main_c_5) : IVec S_ 32) = constantI S_ 32 3#32
    ∧ (StableHlo.after (hostOps0 (F := Ideal)) f (Proc.devRef .tc main_c) : IVec S3 32) = fun i => lit0 (S3.rowMajor i) := by
  refine ⟨?_, ?_, ?_⟩ <;> after_results <;> rfl

theorem quot_keeps : StableHlo.after (hostOps0_1 (F := Ideal)) f (Proc.devRef .tc main_v19) = f (Proc.devRef .tc main_v19)
    ∧ StableHlo.after (hostOps0_1 (F := Ideal)) f (Proc.devRef .tc main_c) = f (Proc.devRef .tc main_c) := by
  refine ⟨?_, ?_⟩ <;> after_results <;> rfl

theorem times_stage : (StableHlo.after (hostOps0_2 (F := Ideal)) f (Proc.devRef .tc main_v22) : IVec S48 32) = muli (f (Proc.devRef .tc main_v20)) (all48 4#32)
    ∧ (StableHlo.after (hostOps0_2 (F := Ideal)) f (Proc.devRef .tc main_c_7) : IVec S_ 32) = constantI S_ 32 3#32
    ∧ StableHlo.after (hostOps0_2 (F := Ideal)) f (Proc.devRef .tc main_v19) = f (Proc.devRef .tc main_v19)
    ∧ StableHlo.after (hostOps0_2 (F := Ideal)) f (Proc.devRef .tc main_c) = f (Proc.devRef .tc main_c) := by
  refine ⟨?_, ?_, ?_, ?_⟩ <;> after_results <;> rfl

theorem rest_keeps : StableHlo.after (hostOps0_3 (F := Ideal)) f (Proc.devRef .tc main_v22) = f (Proc.devRef .tc main_v22)
    ∧ StableHlo.after (hostOps0_3 (F := Ideal)) f (Proc.devRef .tc main_c) = f (Proc.devRef .tc main_c) := by
  refine ⟨?_, ?_⟩ <;> after_results <;> rfl

theorem quot_stage : (StableHlo.after (hostOps0_1 (F := Ideal)) f (Proc.devRef .tc main_v20) : IVec S48 32) = quot (f (Proc.devRef .tc main_v19)) (f (Proc.devRef .tc main_c_5)) := by
  unfold quot all48
  after_results
  simp only [StableHlo.TRef.ofBuf_toBuf]
  rfl

theorem rest_stage : (StableHlo.after (hostOps0_3 (F := Ideal)) f (Proc.devRef .tc main_v23) : IVec S48 32) = rest (f (Proc.devRef .tc main_v19)) (f (Proc.devRef .tc main_c_7)) := by
  unfold rest divisor all48
  after_results
  simp only [StableHlo.TRef.ofBuf_toBuf, main_call1_call0]
  rfl

theorem ones_stage : (StableHlo.after (hostOps0_4 (F := Ideal)) f (Proc.devRef .tc main_v38) : S48x64.Idx → EReal)
    = ones (column (f (Proc.devRef .tc main_v22)) (f (Proc.devRef .tc main_v23)) (f (Proc.devRef .tc main_c))) := by
  unfold ones column all48
  after_results <;> rfl
end

/-- The columns the selector's rows pick. -/
def picks : IVec S48 32 :=
  column (muli (quot (iotaInDim S48 32 0) (constantI S_ 32 3#32)) (all48 4#32)) (rest (iotaInDim S48 32 0) (constantI S_ 32 3#32))
    (fun i => lit0 (S3.rowMajor i))

/-- Row `r` picks column `4 (r / 3) + 1 + r % 3`. -/
theorem picks_apply (r : Fin 48) : picks (ix1 r) = BitVec.ofNat 32 (4 * (r.val / 3) + 1 + r.val % 3) := by
  revert r
  decide +kernel

/-- The selector, as the call finds it. -/
theorem selector : (V m c main_v38 : S48x64.Idx → EReal) = ones picks := by
  show (StableHlo.after (List.flatten [hostOps0 (F := Ideal), hostOps0_1, hostOps0_2, hostOps0_3, hostOps0_4]) (fun b => m (c, b)) (Proc.devRef .tc main_v38) : S48x64.Idx → EReal) = _
  simp only [List.flatten_cons, List.flatten_nil, List.append_nil, StableHlo.after_append]
  rw [ones_stage, rest_stage, (rest_keeps _).1, (rest_keeps _).2, (times_stage _).1, (times_stage _).2.1, (times_stage _).2.2.1, (times_stage _).2.2.2,
    quot_stage, (quot_keeps _).1, (quot_keeps _).2, (first_stage _).1, (first_stage _).2.1, (first_stage _).2.2]
  rfl

theorem ones_apply (p : IVec S48 32) (r : Fin 48) (k : Fin 64) :
    ones p (ix2 r k) = if p (ix1 r) = BitVec.ofNat 32 k.val then (1 : EReal) else 0 := by
  pointwise [ones]
  by_cases h : p (ix1 r) = BitVec.ofNat 32 k.val
  · rw [if_pos h, h]
    simp [IntOp.cmpi, FloatOps.uitofp]
  · rw [if_neg h]
    simp [IntOp.cmpi, FloatOps.uitofp, h]

/-- Its entry at a row and a column. -/
theorem selector_apply (r : Fin 48) (k : Fin 64) :
    V m c main_v38 (ix2 r k) = if k.val = 4 * (r.val / 3) + 1 + r.val % 3 then (1 : EReal) else 0 := by
  have e : V m c main_v38 (ix2 r k) = ones picks (ix2 r k) := congrFun (selector m c) (ix2 r k)
  have hr := r.isLt
  have hk := k.isLt
  rw [e, ones_apply, picks_apply]
  refine if_congr ⟨fun h => ?_, fun h => by rw [h]⟩ rfl rfl
  have h' := congrArg BitVec.toNat h
  simp only [BitVec.toNat_ofNat] at h'
  omega

end Cert.Layer.SsdTail

end
-- ==== Proof.SsdTailRows.lean ====
/-
  The sample batch's first mixer's third array: at each of its eight grid points, the rows that a selector matrix picks of
  the point's block of the projection, which are the convolution's last three inputs of each sequence.
-/
module

public import proofs.«01_k».proof.Proof.Rows
public import proofs.«01_k».proof.Proof.SsdTailSel
public import Idealize.ShloMosaic.Lib.Tactic
public import Idealize.ShloMosaic.Lib.Pipeline.ValueKit
public import Idealize.ShloMosaic.Lib.Pipeline.ReadBack

@[expose] public section

set_option maxRecDepth 16384

noncomputable section

namespace Cert.Layer.SsdTail

open Cert.Layer Cert.Kernel6Ideal Cert.Kernel6Ideal.Gen Cert.Kernel6Ideal.Value Idealize.ShloMosaic Idealize.ShloMosaic.TcCoe Idealize.SL.Sem

variable (m : (ℓ : Loc nD τ sig) → Buf (Elt Ideal) ℓ) (c : Dev nD)

/-- The block indices, decided over the grid. -/
theorem idx : ∀ t : Fin cfg0.N, win0_0.index t = ![t.val, 0] ∧ win0_4.index t = ![0, 0] ∧ win0_13.index t = ![t.val, 0] := by
  decide +kernel

theorem lt8 (t : Fin cfg0.N) : t.val < 8 := lt_of_lt_of_eq t.isLt N_0

theorem read0 (t : Fin cfg0.N) (r : Fin 64) (q : Fin 1792) (n : Fin 512) (hn : n.val = 64 * t.val + r.val) :
    iblk m c 0 t (ix2 r q) = m ((c : Thread nD τ).loc main_arg0) (ix2 n (⟨q.val, by omega⟩ : Fin 3584)) := by
  obtain ⟨e, -, -⟩ := idx t
  rw [← V_main_arg0 m c]
  show V m c main_arg0 (((cfg0.win 0).blk t).view.emb (ix2 r q)) = _
  congr 1
  funext a; apply Fin.ext
  match a with
  | ⟨0, _⟩ => show win0_0.index t (0 : Fin 2) * 64 + 1 * r.val = n.val; rw [e, hn]; simp [Nat.mul_comm]
  | ⟨1, _⟩ => show win0_0.index t (1 : Fin 2) * 1792 + 1 * q.val = q.val; rw [e]; simp

theorem read4 (t : Fin cfg0.N) (r : Fin 48) (k : Fin 64) : iblk m c 4 t (ix2 r k) = V m c main_v38 (ix2 r k) := by
  obtain ⟨-, e, -⟩ := idx t
  show V m c main_v38 (((cfg0.win 4).blk t).view.emb (ix2 r k)) = _
  congr 1
  funext a; apply Fin.ext
  match a with
  | ⟨0, _⟩ => show win0_4.index t (0 : Fin 2) * 48 + 1 * r.val = r.val; rw [e]; simp
  | ⟨1, _⟩ => show win0_4.index t (1 : Fin 2) * 64 + 1 * k.val = k.val; rw [e]; simp

/-- A matrix whose rows each hold a single one picks rows: the parts that make up a finite entry sum to it. -/
theorem pick_apply (x : Vec Ideal S64x1792 .f32) (s : Vec Ideal S48x64 .bf16) (r : Fin 48) (d : Fin 1024) (p : Fin 64)
    (hs : ∀ k : Fin 64, s (ix2 r k) = if k = p then (1 : EReal) else 0)
    (hx : ∀ k : Fin 64, x (ix2 k (⟨512 + d.val, by omega⟩ : Fin 1792)) ≠ (⊤ : EReal) ∧ x (ix2 k (⟨512 + d.val, by omega⟩ : Fin 1792)) ≠ (⊥ : EReal)) :
    k0_pay5 x s (ix2 r d) = x (ix2 p (⟨512 + d.val, by omega⟩ : Fin 1792)) := by
  have hz : ∀ k : Fin 64, (x (ix2 k (⟨512 + d.val, by omega⟩ : Fin 1792)) : EReal) - x (ix2 k (⟨512 + d.val, by omega⟩ : Fin 1792)) = 0 :=
    fun k => EReal.sub_self (hx k).1 (hx k).2
  pointwise [k0_pay5, k0_pay4]
  rw [Finset.sum_eq_single (⟨p.val, by omega⟩ : Fin 192)]
  · rw [dif_pos p.isLt, dif_pos p.isLt, hs, if_pos rfl, one_mul]
  · intro k _ hk
    by_cases h : k.val < 64
    · have h0 := hs ⟨k.val, h⟩
      have hne : ¬((⟨k.val, h⟩ : Fin 64) = p) := by
        intro e
        subst e
        exact hk rfl
      rw [if_neg hne] at h0
      rw [dif_pos h, h0, zero_mul]
    · by_cases h' : k.val - 64 < 64
      · rw [dif_neg h, dif_neg h, dif_pos h', dif_pos h', hz, mul_zero]
      · rw [dif_neg h, dif_neg h, dif_neg h', dif_neg h', hz, sub_zero, mul_zero]
  · exact fun h => absurd (Finset.mem_univ _) h

/-- The row a sample's kept row comes from. -/
def src (n : Fin 384) : Fin 512 := ⟨4 * (n.val / 3) + 1 + n.val % 3, by omega⟩

theorem point (hu : ∀ i, m ((c : Thread nD τ).loc main_arg0) i ≠ (⊤ : EReal) ∧ m ((c : Thread nD τ).loc main_arg0) i ≠ (⊥ : EReal))
    (t : Fin cfg0.N) (r : Fin 48) (d : Fin 1024) (n : Fin 384) (hn : n.val = 48 * t.val + r.val) :
    k0_pay5 (iblk m c 0 t) (iblk m c 4 t) (ix2 r d) = m ((c : Thread nD τ).loc main_arg0) (ix2 (src n) (⟨512 + d.val, by omega⟩ : Fin 3584)) := by
  have ht := lt8 t
  have hr := r.isLt
  rw [pick_apply (iblk m c 0 t) (iblk m c 4 t) r d ⟨4 * (r.val / 3) + 1 + r.val % 3, by omega⟩ ?_ ?_]
  · exact read0 m c t _ _ (src n) (by show 4 * (n.val / 3) + 1 + n.val % 3 = 64 * t.val + (4 * (r.val / 3) + 1 + r.val % 3); omega)
  · intro k
    rw [read4, selector_apply]
    simp only [Fin.ext_iff]
  · intro k
    rw [read0 m c t k _ (⟨64 * t.val + k.val, by omega⟩ : Fin 512) rfl]
    exact hu _

/-- The rows the call keeps. -/
theorem final13 (hu : ∀ i, m ((c : Thread nD τ).loc main_arg0) i ≠ (⊤ : EReal) ∧ m ((c : Thread nD τ).loc main_arg0) i ≠ (⊥ : EReal)) :
    (dats m 0 c).arrAt 13 cfg0.N = fun i : S384x1024.Idx => m ((c : Thread nD τ).loc main_arg0)
      (ix2 (src (i 0)) (⟨512 + (i 1).val, by have h1 : (i 1).val < 1024 := (i 1).isLt; omega⟩ : Fin 3584)) := by
  refine (dats m 0 c).arrAt_eq_of_covers 13 _ (by decide +kernel) fun t hf y => ?_
  have e := idx t
  blk_simp
  rw [after0_13]
  idx_vars y
  have e1 : ((cfg0.win 13).blk t).view.emb (ix2 y0 y1) 1 = y1 := by
    apply Fin.ext
    show win0_13.index t (1 : Fin 2) * 1024 + 1 * y1.val = y1.val; simp [e]
  have e0 : (((cfg0.win 13).blk t).view.emb (ix2 y0 y1) 0).val = 48 * t.val + y0.val := by
    show win0_13.index t (0 : Fin 2) * 48 + 1 * y0.val = _; simp [e, Nat.mul_comm]
  have hp := point m c hu t y0 y1 _ e0
  refine Eq.trans ?_ (hp.trans ?_)
  · frame_out
  · refine congrArg (m ((c : Thread nD τ).loc main_arg0)) (congrArg (ix2 _) (Fin.ext ?_))
    show 512 + y1.val = 512 + (win0_13.index t (1 : Fin 2) * 1024 + y1.val)
    simp [e]

end Cert.Layer.SsdTail

end
-- ==== Proof.SsdTailClaims.lean ====
/-
  The claims about the sample batch's first mixer: the frames, and the rows it keeps for the next step equal to the
  reference's when the projection has no infinite entry.
-/
module

public import proofs.«01_k».proof.Defs
public import proofs.«01_k».proof.Proof.Gen.Kernel6.Frame
public import proofs.«01_k».proof.Proof.SsdTailFinite
public import proofs.«01_k».proof.Proof.SsdTailRows
public import proofs.«01_k».proof.Proof.Gen.Reference6Ideal.Run

@[expose] public section

set_option maxRecDepth 16384

noncomputable section

namespace Cert.Layer.SsdTail

open Idealize.ShloMosaic Idealize.ShloMosaic.TcCoe Idealize.ShloMosaic.StableHlo Idealize.SL.Sem

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_ideal_finite : Cert.quiescent_Kernel6Ideal_pre_finite := fun m ρ _ => Cert.Kernel6Ideal.Gen.frame m ρ

theorem frame_reference : Cert.quiescent_Reference6Ideal := fun m ρ _ =>
  (θ_run Cert.Reference6Ideal.defs _ _).mono
    (fun r h => ⟨fun c => (h c).2, sem_eq_zero_of_no_sems (by decide) r.2⟩) (Cert.Reference6Ideal.Value.run (F := Ideal) m ρ)

theorem frame_reference_finite : Cert.quiescent_Reference6Ideal_pre_finite := fun m ρ _ => frame_reference m ρ trivial

section
open Cert.Reference6Ideal Cert.Reference6Ideal.Gen

/-- The last three of the kept and the new inputs of each sequence. -/
def refTail (u : FVec Ideal S512x3584 .f32) (s : FVec Ideal S128x3x1024 .f32) : FVec Ideal S128x3x1024 .f32 :=
  extractStridedSlice S128x3x1024 ![0, 4, 0] (concatenate S128x7x1024 1 [⟨S128x3x1024, s⟩, ⟨S128x4x1024, extractStridedSlice S128x4x1024 ![0, 0, 512] (shapeCast _ u shapeCasts_S512x3584_S128x4x3584) slices_S128x4x3584_S128x4x1024_0_0_512⟩] concatenates_S128x3x1024_S128x4x1024_S128x7x1024_d1) slices_S128x7x1024_S128x3x1024_0_4_0

/-- They are all new ones. -/
theorem refTail_apply (u : FVec Ideal S512x3584 .f32) (s : FVec Ideal S128x3x1024 .f32) (b : Fin 128) (l : Fin 3) (d : Fin 1024) :
    refTail u s (ix3 b l d) = u (ix2 (⟨b.val * 4 + (l.val + 1), by omega⟩ : Fin 512) (⟨512 + d.val, by omega⟩ : Fin 3584)) := by
  unfold refTail
  pointwise
  rw [dif_neg (by omega)]
  have e : (⟨b.val * 4 + (4 + l.val - 3), by omega⟩ : Fin 512) = ⟨b.val * 4 + (l.val + 1), by omega⟩ := Fin.ext (by simp only; omega)
  rw [e]

theorem ref0 (u : FVec Ideal S512x3584 .f32) (s : FVec Ideal S128x3x1024 .f32) :
    shapeCast S384x1024 (refTail u s) shapeCasts_S128x3x1024_S384x1024
      = fun i : S384x1024.Idx => u (ix2 (src (i 0)) (⟨512 + (i 1).val, by have h1 : (i 1).val < 1024 := (i 1).isLt; omega⟩ : Fin 3584)) := by
  funext i
  idx_vars i
  pointwise [refTail_apply]
  have e : (⟨i0.val / 3 * 4 + (i0.val % 3 + 1), by omega⟩ : Fin 512) = src i0 := Fin.ext (by show _ = 4 * (i0.val / 3) + 1 + i0.val % 3; simp only; omega)
  rw [e]
end

theorem algebraic : Cert.algebraic_Kernel6Ideal_Reference6Ideal_pre_finite := by
  intro m ρ m' ρ' hpre hagree
  have hu : ∀ (c : Dev Cert.Kernel6Ideal.nD) i, m ((c.tc : Thread Cert.Kernel6Ideal.nD Cert.Kernel6Ideal.τ).loc Cert.Kernel6Ideal.main_arg0) i ≠ (⊤ : EReal)
      ∧ m ((c.tc : Thread Cert.Kernel6Ideal.nD Cert.Kernel6Ideal.τ).loc Cert.Kernel6Ideal.main_arg0) i ≠ (⊥ : EReal) :=
    fun c => entry_finite _ _ _ _ _ _ _ _ _ _ (hpre c)
  refine ⟨fun c => (Cert.Kernel6Ideal.Gen.dats m 0 c).arrAt 13 Cert.Kernel6Ideal.cfg0.N,
    (θ_run Cert.Kernel6Ideal.defs _ _).mono (fun r h c => (h c).2.2) (Cert.Kernel6Ideal.Value.run_blocks (F := Ideal) m ρ), ?_⟩
  refine (θ_run Cert.Reference6Ideal.defs _ _).mono (fun r h c => ?_) (Cert.Reference6Ideal.Value.run (F := Ideal) m' ρ')
  obtain ⟨h0, hargs⟩ := h c
  obtain ⟨a0, -⟩ := hagree c
  rw [a0] at h0
  exact ⟨h0.trans ((ref0 _ _).trans (final13 m c (hu c)).symm), hargs⟩

end Cert.Layer.SsdTail

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Pre_finite
public import proofs.«01_k».proof.Proof.MixClaims
public import proofs.«01_k».proof.Proof.ProjClaims
public import proofs.«01_k».proof.Proof.MemClaims
public import proofs.«01_k».proof.Proof.OutClaims
public import proofs.«01_k».proof.Proof.SampleProjClaims
public import proofs.«01_k».proof.Proof.SsdTailClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite.Gen.facts,
  Cert.Layer.Mix.frame_kernel, Cert.Layer.Mix.frame_ideal, Cert.Layer.Mix.frame_reference,
  Cert.Layer.Proj.frame_kernel, Cert.Layer.Proj.frame_ideal, Cert.Layer.Proj.frame_reference,
  Cert.Layer.Mem.frame_kernel, Cert.Layer.Mem.frame_ideal, Cert.Layer.Mem.frame_reference,
  Cert.Layer.Out.frame_kernel, Cert.Layer.Out.frame_ideal, Cert.Layer.Out.frame_reference,
  Cert.Layer.SampleProj.frame_kernel, Cert.Layer.SampleProj.frame_ideal, Cert.Layer.SampleProj.frame_reference,
  Cert.Layer.SsdTail.frame_kernel, Cert.Layer.SsdTail.frame_ideal, Cert.Layer.SsdTail.frame_ideal_finite,
  Cert.Layer.SsdTail.frame_reference, Cert.Layer.SsdTail.frame_reference_finite,
  trivial, Cert.Layer.Mix.algebraic, trivial, Cert.Layer.Proj.algebraic, trivial, Cert.Layer.Mem.algebraic,
  trivial, Cert.Layer.Out.algebraic, trivial, Cert.Layer.SampleProj.algebraic,
  trivial, Cert.Layer.SsdTail.algebraic⟩

end Cert.Proof

end
